-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "centre0" .f32 0xBF6DB6DB#32 ((-13 / 14 : ℝ) : EReal)
  ∧ IdealRules.named_const.Statement Cert.KernelIdeal.κ "centre1" .f32 0xBF492492#32 ((-11 / 14 : ℝ) : EReal)
  ∧ IdealRules.named_const.Statement Cert.KernelIdeal.κ "centre2" .f32 0xBF249249#32 ((-9 / 14 : ℝ) : EReal)
  ∧ IdealRules.named_const.Statement Cert.KernelIdeal.κ "centre4" .f32 0xBEB6DB6E#32 ((-5 / 14 : ℝ) : EReal)
  ∧ IdealRules.named_const.Statement Cert.KernelIdeal.κ "centre5" .f32 0xBE5B6DB7#32 ((-3 / 14 : ℝ) : EReal)
  ∧ IdealRules.named_const.Statement Cert.KernelIdeal.κ "centre6" .f32 0xBD924925#32 ((-1 / 14 : ℝ) : EReal)

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v231) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S4x128x256x256 : Shape := ⟨4, ![4, 128, 256, 256]⟩
abbrev S5000x5 : Shape := ⟨2, ![5000, 5]⟩
abbrev S_ : Shape := ⟨0, ![]⟩
abbrev S1x128x3x3 : Shape := ⟨4, ![1, 128, 3, 3]⟩
abbrev S128x3x3 : Shape := ⟨3, ![128, 3, 3]⟩

class Facts : Prop where
  bcast_S_S5000x5 : S_.BroadcastsInDim S5000x5 (![] : Fin 0 → Fin S5000x5.rank)
  reducesTo_S5000x5_S_d0_1 : S5000x5.ReducesTo [0, 1] S_
  h_S_ : 0 < S_.numel
  slices_S4x128x256x256_S1x128x3x3_0_0_0_0 : S4x128x256x256.Slices ![0, 0, 0, 0] S1x128x3x3
  shapeCasts_S1x128x3x3_S128x3x3 : S1x128x3x3.ShapeCasts S128x3x3
  bcast_S_S128x3x3 : S_.BroadcastsInDim S128x3x3 (![] : Fin 0 → Fin S128x3x3.rank)
  reducesTo_S128x3x3_S_d0_1_2 : S128x3x3.ReducesTo [0, 1, 2] S_

variable [Facts]

def fn {F : FTy → Type} [FloatOps F] (main_arg0 : FVec F S4x128x256x256 .f32) (main_arg1 : FVec F S5000x5 .f32) : IVec S_ 1 :=
  let main_cst : FVec F S_ .f32 := constant S_ .f32 0x3F800000#32
  let main_v0 : FVec F S5000x5 .f32 := broadcastInDim S5000x5 ![] bcast_S_S5000x5 main_cst
  let main_v1 : IVec S5000x5 1 := cmpf .olt main_arg1 main_v0
  let main_c : IVec S_ 1 := constantI S_ 1 1#1
  let main_v2 : IVec S_ 1 := (fun x v => Host.reduce IntOp.andi x v reducesTo_S5000x5_S_d0_1 h_S_) main_v1 main_c
  let main_v3 : FVec F S1x128x3x3 .f32 := (extractStridedSlice S1x128x3x3 ![0, 0, 0, 0] · slices_S4x128x256x256_S1x128x3x3_0_0_0_0) main_arg0
  let main_v4 : FVec F S128x3x3 .f32 := shapeCast S128x3x3 main_v3 shapeCasts_S1x128x3x3_S128x3x3
  let main_v5 : FVec F S128x3x3 .f32 := Host.absf main_v4
  let main_cst_0 : FVec F S_ .f32 := constant S_ .f32 0x7F800000#32
  let main_v6 : FVec F S128x3x3 .f32 := broadcastInDim S128x3x3 ![] bcast_S_S128x3x3 main_cst_0
  let main_v7 : IVec S128x3x3 1 := cmpf .olt main_v5 main_v6
  let main_c_1 : IVec S_ 1 := constantI S_ 1 1#1
  let main_v8 : IVec S_ 1 := (fun x v => Host.reduce IntOp.andi x v reducesTo_S128x3x3_S_d0_1_2 h_S_) main_v7 main_c_1
  let main_v9 : IVec S_ 1 := andi main_v2 main_v8
  main_v9
-- ==== Kernel.lean ====
abbrev S4x128x256x256 : Shape := ⟨4, ![4, 128, 256, 256]⟩
abbrev S5000x5 : Shape := ⟨2, ![5000, 5]⟩
abbrev S5000x2 : Shape := ⟨2, ![5000, 2]⟩
abbrev S_ : Shape := ⟨0, ![]⟩
abbrev S5000x128 : Shape := ⟨2, ![5000, 128]⟩
abbrev S1x128x3x3 : Shape := ⟨4, ![1, 128, 3, 3]⟩
abbrev S128x3x3 : Shape := ⟨3, ![128, 3, 3]⟩
abbrev S3x3x128 : Shape := ⟨3, ![3, 3, 128]⟩
abbrev S3x1x128 : Shape := ⟨3, ![3, 1, 128]⟩
abbrev S3x128 : Shape := ⟨2, ![3, 128]⟩
abbrev S1x128 : Shape := ⟨2, ![1, 128]⟩
abbrev S128 : Shape := ⟨1, ![128]⟩
abbrev S9x128 : Shape := ⟨2, ![9, 128]⟩
abbrev S16x128 : Shape := ⟨2, ![16, 128]⟩
abbrev S49x5000x128 : Shape := ⟨3, ![49, 5000, 128]⟩
abbrev S200x128 : Shape := ⟨2, ![200, 128]⟩
abbrev S49x200x128 : Shape := ⟨3, ![49, 200, 128]⟩
abbrev S1x1x128 : Shape := ⟨3, ![1, 1, 128]⟩
abbrev S8x1 : Shape := ⟨2, ![8, 1]⟩
abbrev S1x8x1 : Shape := ⟨3, ![1, 8, 1]⟩
abbrev S1x8x128 : Shape := ⟨3, ![1, 8, 128]⟩
abbrev S7x7x5000x128 : Shape := ⟨4, ![7, 7, 5000, 128]⟩
abbrev S5000x128x7x7 : Shape := ⟨4, ![5000, 128, 7, 7]⟩

abbrev nBuf : Space → Nat
  | .hbm => 69
  | .vmem => 5
  | .smem => 0
  | _ => 0

abbrev bufTy : (tb : Table) → Fin (tcTables nBuf tb) → BufTy
  | .hbm, ⟨0, _⟩ => ⟨S4x128x256x256, .f32⟩
  | .hbm, ⟨1, _⟩ => ⟨S5000x5, .f32⟩
  | .hbm, ⟨2, _⟩ => ⟨S5000x2, .f32⟩
  | .hbm, ⟨3, _⟩ => ⟨S_, .i32⟩
  | .hbm, ⟨4, _⟩ => ⟨S_, .f32⟩
  | .hbm, ⟨5, _⟩ => ⟨S5000x128, .f32⟩
  | .hbm, ⟨6, _⟩ => ⟨S1x128x3x3, .f32⟩
  | .hbm, ⟨7, _⟩ => ⟨S128x3x3, .f32⟩
  | .hbm, ⟨8, _⟩ => ⟨S3x3x128, .f32⟩
  | .hbm, ⟨9, _⟩ => ⟨S3x1x128, .f32⟩
  | .hbm, ⟨10, _⟩ => ⟨S3x128, .f32⟩
  | .hbm, ⟨11, _⟩ => ⟨S3x1x128, .f32⟩
  | .hbm, ⟨12, _⟩ => ⟨S3x128, .f32⟩
  | .hbm, ⟨13, _⟩ => ⟨S3x128, .f32⟩
  | .hbm, ⟨14, _⟩ => ⟨S3x1x128, .f32⟩
  | .hbm, ⟨15, _⟩ => ⟨S3x128, .f32⟩
  | .hbm, ⟨16, _⟩ => ⟨S3x128, .f32⟩
  | .hbm, ⟨17, _⟩ => ⟨S1x128, .f32⟩
  | .hbm, ⟨18, _⟩ => ⟨S128, .f32⟩
  | .hbm, ⟨19, _⟩ => ⟨S1x128, .f32⟩
  | .hbm, ⟨20, _⟩ => ⟨S128, .f32⟩
  | .hbm, ⟨21, _⟩ => ⟨S1x128, .f32⟩
  | .hbm, ⟨22, _⟩ => ⟨S128, .f32⟩
  | .hbm, ⟨23, _⟩ => ⟨S1x128, .f32⟩
  | .hbm, ⟨24, _⟩ => ⟨S128, .f32⟩
  | .hbm, ⟨25, _⟩ => ⟨S1x128, .f32⟩
  | .hbm, ⟨26, _⟩ => ⟨S128, .f32⟩
  | .hbm, ⟨27, _⟩ => ⟨S128, .f32⟩
  | .hbm, ⟨28, _⟩ => ⟨S1x128, .f32⟩
  | .hbm, ⟨29, _⟩ => ⟨S128, .f32⟩
  | .hbm, ⟨30, _⟩ => ⟨S1x128, .f32⟩
  | .hbm, ⟨31, _⟩ => ⟨S128, .f32⟩
  | .hbm, ⟨32, _⟩ => ⟨S128, .f32⟩
  | .hbm, ⟨33, _⟩ => ⟨S1x128, .f32⟩
  | .hbm, ⟨34, _⟩ => ⟨S128, .f32⟩
  | .hbm, ⟨35, _⟩ => ⟨S1x128, .f32⟩
  | .hbm, ⟨36, _⟩ => ⟨S128, .f32⟩
  | .hbm, ⟨37, _⟩ => ⟨S128, .f32⟩
  | .hbm, ⟨38, _⟩ => ⟨S1x128, .f32⟩
  | .hbm, ⟨39, _⟩ => ⟨S128, .f32⟩
  | .hbm, ⟨40, _⟩ => ⟨S1x128, .f32⟩
  | .hbm, ⟨41, _⟩ => ⟨S128, .f32⟩
  | .hbm, ⟨42, _⟩ => ⟨S128, .f32⟩
  | .hbm, ⟨43, _⟩ => ⟨S1x128, .f32⟩
  | .hbm, ⟨44, _⟩ => ⟨S128, .f32⟩
  | .hbm, ⟨45, _⟩ => ⟨S1x128, .f32⟩
  | .hbm, ⟨46, _⟩ => ⟨S128, .f32⟩
  | .hbm, ⟨47, _⟩ => ⟨S128, .f32⟩
  | .hbm, ⟨48, _⟩ => ⟨S1x128, .f32⟩
  | .hbm, ⟨49, _⟩ => ⟨S128, .f32⟩
  | .hbm, ⟨50, _⟩ => ⟨S1x128, .f32⟩
  | .hbm, ⟨51, _⟩ => ⟨S128, .f32⟩
  | .hbm, ⟨52, _⟩ => ⟨S128, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S9x128, .f32⟩
  | .hbm, ⟨63, _⟩ => ⟨S_, .i32⟩
  | .hbm, ⟨64, _⟩ => ⟨S_, .f32⟩
  | .hbm, ⟨65, _⟩ => ⟨S16x128, .f32⟩
  | .hbm, ⟨66, _⟩ => ⟨S49x5000x128, .f32⟩
  | .hbm, ⟨67, _⟩ => ⟨S7x7x5000x128, .f32⟩
  | .hbm, ⟨68, _⟩ => ⟨S5000x128x7x7, .f32⟩
  | .local _ .vmem, ⟨0, _⟩ => ⟨S200x128, .f32⟩
  | .local _ .vmem, ⟨1, _⟩ => ⟨S200x128, .f32⟩
  | .local _ .vmem, ⟨2, _⟩ => ⟨S16x128, .f32⟩
  | .local _ .vmem, ⟨3, _⟩ => ⟨S49x200x128, .f32⟩
  | .local _ .vmem, ⟨4, _⟩ => ⟨S49x200x128, .f32⟩
  | _, _ => ⟨S4x128x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_c_0 : Ref sig .tc := ⟨.hbm, 63, rfl⟩
abbrev main_call1_v0 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S49x200x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "centre0" => some ((-13 / 14 : ℝ) : EReal)
  | "centre1" => some ((-11 / 14 : ℝ) : EReal)
  | "centre2" => some ((-9 / 14 : ℝ) : EReal)
  | "centre4" => some ((-5 / 14 : ℝ) : EReal)
  | "centre5" => some ((-3 / 14 : ℝ) : EReal)
  | "centre6" => some ((-1 / 14 : ℝ) : EReal)
  | _ => none
-- ==== ReferenceIdeal.lean ====
abbrev S4x128x256x256 : Shape := ⟨4, ![4, 128, 256, 256]⟩
abbrev S5000x5 : Shape := ⟨2, ![5000, 5]⟩
abbrev S5000x1 : Shape := ⟨2, ![5000, 1]⟩
abbrev S5000 : Shape := ⟨1, ![5000]⟩
abbrev S_ : Shape := ⟨0, ![]⟩
abbrev S7 : Shape := ⟨1, ![7]⟩
abbrev S1x7 : Shape := ⟨2, ![1, 7]⟩
abbrev S5000x7 : Shape := ⟨2, ![5000, 7]⟩
abbrev S5000x7x1 : Shape := ⟨3, ![5000, 7, 1]⟩
abbrev S5000x7x7 : Shape := ⟨3, ![5000, 7, 7]⟩
abbrev S5000x1x7 : Shape := ⟨3, ![5000, 1, 7]⟩
abbrev S5000x1x1 : Shape := ⟨3, ![5000, 1, 1]⟩
abbrev S5000x7x7x1 : Shape := ⟨4, ![5000, 7, 7, 1]⟩
abbrev S5000x7x7x3 : Shape := ⟨4, ![5000, 7, 7, 3]⟩
abbrev S5000x7x7x128 : Shape := ⟨4, ![5000, 7, 7, 128]⟩
abbrev S5000x128x7x7 : Shape := ⟨4, ![5000, 128, 7, 7]⟩

abbrev nBuf : Space → Nat
  | .hbm => 333
  | .vmem => 0
  | .smem => 0
  | _ => 0

abbrev hbmTy0_0 (i : Nat) : BufTy := match i % 128 with
  | 0 => ⟨S4x128x256x256, .f32⟩
  | 1 => ⟨S5000x5, .f32⟩
  | 2 => ⟨S5000x1, .f32⟩
  | 3 => ⟨S5000, .f32⟩
  | 4 => ⟨S_, .f32⟩
  | 5 => ⟨S_, .f32⟩
  | 6 => ⟨S_, .f32⟩
  | 7 => ⟨S5000, .f32⟩
  | 8 => ⟨S5000, .f32⟩
  | 9 => ⟨S_, .f32⟩
  | 10 => ⟨S5000, .f32⟩
  | 11 => ⟨S5000, .f32⟩
  | 12 => ⟨S5000x1, .f32⟩
  | 13 => ⟨S5000, .f32⟩
  | 14 => ⟨S_, .f32⟩
  | 15 => ⟨S_, .f32⟩
  | 16 => ⟨S_, .f32⟩
  | 17 => ⟨S5000, .f32⟩
  | 18 => ⟨S5000, .f32⟩
  | 19 => ⟨S_, .f32⟩
  | 20 => ⟨S5000, .f32⟩
  | 21 => ⟨S5000, .f32⟩
  | 22 => ⟨S5000x1, .f32⟩
  | 23 => ⟨S5000, .f32⟩
  | 24 => ⟨S_, .f32⟩
  | 25 => ⟨S_, .f32⟩
  | 26 => ⟨S_, .f32⟩
  | 27 => ⟨S5000, .f32⟩
  | 28 => ⟨S5000, .f32⟩
  | 29 => ⟨S_, .f32⟩
  | 30 => ⟨S5000, .f32⟩
  | 31 => ⟨S5000, .f32⟩
  | 32 => ⟨S5000x1, .f32⟩
  | 33 => ⟨S5000, .f32⟩
  | 34 => ⟨S_, .f32⟩
  | 35 => ⟨S_, .f32⟩
  | 36 => ⟨S_, .f32⟩
  | 37 => ⟨S5000, .f32⟩
  | 38 => ⟨S5000, .f32⟩
  | 39 => ⟨S_, .f32⟩
  | 40 => ⟨S5000, .f32⟩
  | 41 => ⟨S5000, .f32⟩
  | 42 => ⟨S5000x1, .f32⟩
  | 43 => ⟨S5000, .f32⟩
  | 44 => ⟨S_, .f32⟩
  | 45 => ⟨S_, .f32⟩
  | 46 => ⟨S_, .f32⟩
  | 47 => ⟨S5000, .f32⟩
  | 48 => ⟨S5000, .f32⟩
  | 49 => ⟨S_, .f32⟩
  | 50 => ⟨S5000, .f32⟩
  | 51 => ⟨S5000, .f32⟩
  | 52 => ⟨S_, .f32⟩
  | 53 => ⟨S5000, .f32⟩
  | 54 => ⟨S5000, .f32⟩
  | 55 => ⟨S5000, .f32⟩
  | 56 => ⟨S_, .f32⟩
  | 57 => ⟨S5000, .f32⟩
  | 58 => ⟨S5000, .f32⟩
  | 59 => ⟨S5000, .f32⟩
  | 60 => ⟨S5000x1, .f32⟩
  | 61 => ⟨S5000x1, .f32⟩
  | 62 => ⟨S5000x1, .f32⟩
  | 63 => ⟨S5000x1, .f32⟩
  | 64 => ⟨S5000x1, .f32⟩
  | 65 => ⟨S5000x5, .f32⟩
  | 66 => ⟨S5000x1, .f32⟩
  | 67 => ⟨S5000, .f32⟩
  | 68 => ⟨S5000, .i32⟩
  | 69 => ⟨S5000x1, .f32⟩
  | 70 => ⟨S5000, .f32⟩
  | 71 => ⟨S_, .f32⟩
  | 72 => ⟨S5000, .f32⟩
  | 73 => ⟨S5000, .f32⟩
  | 74 => ⟨S5000x1, .f32⟩
  | 75 => ⟨S5000, .f32⟩
  | 76 => ⟨S_, .f32⟩
  | 77 => ⟨S5000, .f32⟩
  | 78 => ⟨S5000, .f32⟩
  | 79 => ⟨S5000x1, .f32⟩
  | 80 => ⟨S5000, .f32⟩
  | 81 => ⟨S_, .f32⟩
  | 82 => ⟨S5000, .f32⟩
  | 83 => ⟨S5000, .f32⟩
  | 84 => ⟨S5000x1, .f32⟩
  | 85 => ⟨S5000, .f32⟩
  | 86 => ⟨S_, .f32⟩
  | 87 => ⟨S5000, .f32⟩
  | 88 => ⟨S5000, .f32⟩
  | 89 => ⟨S5000, .f32⟩
  | 90 => ⟨S_, .f32⟩
  | 91 => ⟨S5000, .f32⟩
  | 92 => ⟨S5000, .f32⟩
  | 93 => ⟨S5000, .f32⟩
  | 94 => ⟨S_, .f32⟩
  | 95 => ⟨S5000, .f32⟩
  | 96 => ⟨S5000, .f32⟩
  | 97 => ⟨S_, .f32⟩
  | 98 => ⟨S5000, .f32⟩
  | 99 => ⟨S5000, .f32⟩
  | 100 => ⟨S_, .f32⟩
  | 101 => ⟨S5000, .f32⟩
  | 102 => ⟨S5000, .f32⟩
  | 103 => ⟨S5000x1, .f32⟩
  | 104 => ⟨S7, .f32⟩
  | 105 => ⟨S_, .f32⟩
  | 106 => ⟨S7, .f32⟩
  | 107 => ⟨S7, .f32⟩
  | 108 => ⟨S5000x1, .f32⟩
  | 109 => ⟨S1x7, .f32⟩
  | 110 => ⟨S5000x7, .f32⟩
  | 111 => ⟨S5000x7, .f32⟩
  | 112 => ⟨S5000x7, .f32⟩
  | 113 => ⟨S5000x7, .f32⟩
  | 114 => ⟨S5000x7, .f32⟩
  | 115 => ⟨S5000x1, .f32⟩
  | 116 => ⟨S7, .f32⟩
  | 117 => ⟨S_, .f32⟩
  | 118 => ⟨S7, .f32⟩
  | 119 => ⟨S7, .f32⟩
  | 120 => ⟨S5000x1, .f32⟩
  | 121 => ⟨S1x7, .f32⟩
  | 122 => ⟨S5000x7, .f32⟩
  | 123 => ⟨S5000x7, .f32⟩
  | 124 => ⟨S5000x7, .f32⟩
  | 125 => ⟨S5000x7, .f32⟩
  | 126 => ⟨S5000x7, .f32⟩
  | 127 => ⟨S5000x7x1, .f32⟩
  | _ => ⟨S4x128x256x256, .f32⟩

abbrev hbmTy0_1 (i : Nat) : BufTy := match i % 128 with
  | 0 => ⟨S5000x7x7, .f32⟩
  | 1 => ⟨S5000x1x7, .f32⟩
  | 2 => ⟨S5000x7x7, .f32⟩
  | 3 => ⟨S_, .f32⟩
  | 4 => ⟨S5000x7x7, .f32⟩
  | 5 => ⟨S5000x7x7, .i1⟩
  | 6 => ⟨S_, .f32⟩
  | 7 => ⟨S5000x7x7, .f32⟩
  | 8 => ⟨S5000x7x7, .i1⟩
  | 9 => ⟨S5000x7x7, .i1⟩
  | 10 => ⟨S_, .f32⟩
  | 11 => ⟨S5000x7x7, .f32⟩
  | 12 => ⟨S5000x7x7, .i1⟩
  | 13 => ⟨S5000x7x7, .i1⟩
  | 14 => ⟨S_, .f32⟩
  | 15 => ⟨S5000x7x7, .f32⟩
  | 16 => ⟨S5000x7x7, .i1⟩
  | 17 => ⟨S5000x7x7, .i1⟩
  | 18 => ⟨S_, .f32⟩
  | 19 => ⟨S5000x7x7, .f32⟩
  | 20 => ⟨S5000x7x7, .f32⟩
  | 21 => ⟨S_, .f32⟩
  | 22 => ⟨S5000x7x7, .f32⟩
  | 23 => ⟨S5000x7x7, .f32⟩
  | 24 => ⟨S5000x7x7, .f32⟩
  | 25 => ⟨S5000x7x7, .i32⟩
  | 26 => ⟨S5000x7x7, .f32⟩
  | 27 => ⟨S5000x7x7, .i32⟩
  | 28 => ⟨S_, .i32⟩
  | 29 => ⟨S5000x7x7, .i32⟩
  | 30 => ⟨S5000x7x7, .i1⟩
  | 31 => ⟨S_, .i32⟩
  | 32 => ⟨S_, .i32⟩
  | 33 => ⟨S5000x7x7, .i32⟩
  | 34 => ⟨S5000x7x7, .i32⟩
  | 35 => ⟨S_, .i32⟩
  | 36 => ⟨S5000x7x7, .i32⟩
  | 37 => ⟨S5000x7x7, .i32⟩
  | 38 => ⟨S_, .i32⟩
  | 39 => ⟨S_, .i32⟩
  | 40 => ⟨S5000x7x7, .i32⟩
  | 41 => ⟨S5000x7x7, .i32⟩
  | 42 => ⟨S5000x7x7, .f32⟩
  | 43 => ⟨S5000x7x7, .f32⟩
  | 44 => ⟨S_, .i32⟩
  | 45 => ⟨S5000x7x7, .i32⟩
  | 46 => ⟨S5000x7x7, .i1⟩
  | 47 => ⟨S_, .i32⟩
  | 48 => ⟨S_, .i32⟩
  | 49 => ⟨S5000x7x7, .i32⟩
  | 50 => ⟨S5000x7x7, .i32⟩
  | 51 => ⟨S_, .i32⟩
  | 52 => ⟨S5000x7x7, .i32⟩
  | 53 => ⟨S5000x7x7, .i32⟩
  | 54 => ⟨S_, .i32⟩
  | 55 => ⟨S_, .i32⟩
  | 56 => ⟨S5000x7x7, .i32⟩
  | 57 => ⟨S5000x7x7, .i32⟩
  | 58 => ⟨S5000x7x7, .f32⟩
  | 59 => ⟨S5000x7x7, .f32⟩
  | 60 => ⟨S5000x7x7, .f32⟩
  | 61 => ⟨S5000x7x7, .f32⟩
  | 62 => ⟨S5000x7x7, .f32⟩
  | 63 => ⟨S5000x7x7, .f32⟩
  | 64 => ⟨S_, .f32⟩
  | 65 => ⟨S5000x7x7, .f32⟩
  | 66 => ⟨S5000x7x7, .f32⟩
  | 67 => ⟨S_, .f32⟩
  | 68 => ⟨S5000x7x7, .f32⟩
  | 69 => ⟨S5000x7x7, .f32⟩
  | 70 => ⟨S5000x1x1, .i32⟩
  | 71 => ⟨S_, .i32⟩
  | 72 => ⟨S5000x1x1, .i32⟩
  | 73 => ⟨S5000x1x1, .i1⟩
  | 74 => ⟨S_, .i32⟩
  | 75 => ⟨S5000x1x1, .i32⟩
  | 76 => ⟨S5000x1x1, .i32⟩
  | 77 => ⟨S5000x1x1, .i32⟩
  | 78 => ⟨S_, .i32⟩
  | 79 => ⟨S5000x7x7, .i32⟩
  | 80 => ⟨S5000x7x7, .i1⟩
  | 81 => ⟨S_, .i32⟩
  | 82 => ⟨S5000x7x7, .i32⟩
  | 83 => ⟨S5000x7x7, .i32⟩
  | 84 => ⟨S5000x7x7, .i32⟩
  | 85 => ⟨S_, .i32⟩
  | 86 => ⟨S5000x7x7, .i32⟩
  | 87 => ⟨S5000x7x7, .i1⟩
  | 88 => ⟨S_, .i32⟩
  | 89 => ⟨S5000x7x7, .i32⟩
  | 90 => ⟨S5000x7x7, .i32⟩
  | 91 => ⟨S5000x7x7, .i32⟩
  | 92 => ⟨S5000x7x7, .i32⟩
  | 93 => ⟨S5000x7x7x1, .i32⟩
  | 94 => ⟨S5000x7x7x1, .i32⟩
  | 95 => ⟨S5000x7x7x1, .i32⟩
  | 96 => ⟨S5000x7x7x3, .i32⟩
  | 97 => ⟨S5000x7x7x128, .f32⟩
  | 98 => ⟨S_, .i32⟩
  | 99 => ⟨S5000x1x1, .i32⟩
  | 100 => ⟨S5000x1x1, .i1⟩
  | 101 => ⟨S_, .i32⟩
  | 102 => ⟨S5000x1x1, .i32⟩
  | 103 => ⟨S5000x1x1, .i32⟩
  | 104 => ⟨S5000x1x1, .i32⟩
  | 105 => ⟨S_, .i32⟩
  | 106 => ⟨S5000x7x7, .i32⟩
  | 107 => ⟨S5000x7x7, .i1⟩
  | 108 => ⟨S_, .i32⟩
  | 109 => ⟨S5000x7x7, .i32⟩
  | 110 => ⟨S5000x7x7, .i32⟩
  | 111 => ⟨S5000x7x7, .i32⟩
  | 112 => ⟨S_, .i32⟩
  | 113 => ⟨S5000x7x7, .i32⟩
  | 114 => ⟨S5000x7x7, .i1⟩
  | 115 => ⟨S_, .i32⟩
  | 116 => ⟨S5000x7x7, .i32⟩
  | 117 => ⟨S5000x7x7, .i32⟩
  | 118 => ⟨S5000x7x7, .i32⟩
  | 119 => ⟨S5000x7x7, .i32⟩
  | 120 => ⟨S5000x7x7x1, .i32⟩
  | 121 => ⟨S5000x7x7x1, .i32⟩
  | 122 => ⟨S5000x7x7x1, .i32⟩
  | 123 => ⟨S5000x7x7x3, .i32⟩
  | 124 => ⟨S5000x7x7x128, .f32⟩
  | 125 => ⟨S_, .i32⟩
  | 126 => ⟨S5000x1x1, .i32⟩
  | 127 => ⟨S5000x1x1, .i1⟩
  | _ => ⟨S4x128x256x256, .f32⟩

abbrev hbmTy0_2 (i : Nat) : BufTy := match i % 128 with
  | 0 => ⟨S_, .i32⟩
  | 1 => ⟨S5000x1x1, .i32⟩
  | 2 => ⟨S5000x1x1, .i32⟩
  | 3 => ⟨S5000x1x1, .i32⟩
  | 4 => ⟨S_, .i32⟩
  | 5 => ⟨S5000x7x7, .i32⟩
  | 6 => ⟨S5000x7x7, .i1⟩
  | 7 => ⟨S_, .i32⟩
  | 8 => ⟨S5000x7x7, .i32⟩
  | 9 => ⟨S5000x7x7, .i32⟩
  | 10 => ⟨S5000x7x7, .i32⟩
  | 11 => ⟨S_, .i32⟩
  | 12 => ⟨S5000x7x7, .i32⟩
  | 13 => ⟨S5000x7x7, .i1⟩
  | 14 => ⟨S_, .i32⟩
  | 15 => ⟨S5000x7x7, .i32⟩
  | 16 => ⟨S5000x7x7, .i32⟩
  | 17 => ⟨S5000x7x7, .i32⟩
  | 18 => ⟨S5000x7x7, .i32⟩
  | 19 => ⟨S5000x7x7x1, .i32⟩
  | 20 => ⟨S5000x7x7x1, .i32⟩
  | 21 => ⟨S5000x7x7x1, .i32⟩
  | 22 => ⟨S5000x7x7x3, .i32⟩
  | 23 => ⟨S5000x7x7x128, .f32⟩
  | 24 => ⟨S_, .i32⟩
  | 25 => ⟨S5000x1x1, .i32⟩
  | 26 => ⟨S5000x1x1, .i1⟩
  | 27 => ⟨S_, .i32⟩
  | 28 => ⟨S5000x1x1, .i32⟩
  | 29 => ⟨S5000x1x1, .i32⟩
  | 30 => ⟨S5000x1x1, .i32⟩
  | 31 => ⟨S_, .i32⟩
  | 32 => ⟨S5000x7x7, .i32⟩
  | 33 => ⟨S5000x7x7, .i1⟩
  | 34 => ⟨S_, .i32⟩
  | 35 => ⟨S5000x7x7, .i32⟩
  | 36 => ⟨S5000x7x7, .i32⟩
  | 37 => ⟨S5000x7x7, .i32⟩
  | 38 => ⟨S_, .i32⟩
  | 39 => ⟨S5000x7x7, .i32⟩
  | 40 => ⟨S5000x7x7, .i1⟩
  | 41 => ⟨S_, .i32⟩
  | 42 => ⟨S5000x7x7, .i32⟩
  | 43 => ⟨S5000x7x7, .i32⟩
  | 44 => ⟨S5000x7x7, .i32⟩
  | 45 => ⟨S5000x7x7, .i32⟩
  | 46 => ⟨S5000x7x7x1, .i32⟩
  | 47 => ⟨S5000x7x7x1, .i32⟩
  | 48 => ⟨S5000x7x7x1, .i32⟩
  | 49 => ⟨S5000x7x7x3, .i32⟩
  | 50 => ⟨S5000x7x7x128, .f32⟩
  | 51 => ⟨S5000x7x7, .f32⟩
  | 52 => ⟨S5000x7x7x1, .f32⟩
  | 53 => ⟨S5000x7x7, .f32⟩
  | 54 => ⟨S5000x7x7x1, .f32⟩
  | 55 => ⟨S5000x7x7, .f32⟩
  | 56 => ⟨S5000x7x7x1, .f32⟩
  | 57 => ⟨S5000x7x7, .f32⟩
  | 58 => ⟨S5000x7x7x1, .f32⟩
  | 59 => ⟨S5000x7x7x128, .f32⟩
  | 60 => ⟨S5000x7x7x128, .f32⟩
  | 61 => ⟨S5000x7x7x128, .f32⟩
  | 62 => ⟨S5000x7x7x128, .f32⟩
  | 63 => ⟨S5000x7x7x128, .f32⟩
  | 64 => ⟨S5000x7x7x128, .f32⟩
  | 65 => ⟨S5000x7x7x128, .f32⟩
  | 66 => ⟨S5000x7x7x128, .f32⟩
  | 67 => ⟨S5000x7x7x128, .f32⟩
  | 68 => ⟨S5000x7x7x128, .f32⟩
  | 69 => ⟨S5000x7x7x128, .f32⟩
  | 70 => ⟨S5000x7x7x1, .i1⟩
  | 71 => ⟨S_, .f32⟩
  | 72 => ⟨S_, .f32⟩
  | 73 => ⟨S5000x7x7x128, .i1⟩
  | 74 => ⟨S5000x7x7x128, .f32⟩
  | 75 => ⟨S5000x7x7x128, .f32⟩
  | 76 => ⟨S5000x128x7x7, .f32⟩
  | _ => ⟨S4x128x256x256, .f32⟩

abbrev hbmTy (i : Nat) : BufTy := match i / 128 with
  | 0 => hbmTy0_0 i
  | 1 => hbmTy0_1 i
  | 2 => hbmTy0_2 i
  | _ => ⟨S4x128x256x256, .f32⟩

abbrev bufTy : (tb : Table) → Fin (tcTables nBuf tb) → BufTy
  | .hbm, ⟨i, _⟩ => hbmTy i
  | _, _ => ⟨S4x128x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_cst_2 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_3 : Ref sig .tc := ⟨.hbm, 24, rfl⟩
abbrev main_cst_4 : Ref sig .tc := ⟨.hbm, 25, rfl⟩
abbrev main_call2_v0 : Ref sig .tc := ⟨.hbm, 26, rfl⟩
abbrev main_call2_v1 : Ref sig .tc := ⟨.hbm, 27, rfl⟩
abbrev main_call2_v2 : Ref sig .tc := ⟨.hbm, 28, rfl⟩
abbrev main_call2_v3 : Ref sig .tc := ⟨.hbm, 29, rfl⟩
abbrev main_call2_v4 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst_5 : Ref sig .tc := ⟨.hbm, 34, rfl⟩
abbrev main_cst_6 : Ref sig .tc := ⟨.hbm, 35, rfl⟩
abbrev main_call3_v0 : Ref sig .tc := ⟨.hbm, 36, rfl⟩
abbrev main_call3_v1 : Ref sig .tc := ⟨.hbm, 37, rfl⟩
abbrev main_call3_v2 : Ref sig .tc := ⟨.hbm, 38, rfl⟩
abbrev main_call3_v3 : Ref sig .tc := ⟨.hbm, 39, rfl⟩
abbrev main_call3_v4 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_cst_7 : Ref sig .tc := ⟨.hbm, 44, rfl⟩
abbrev main_cst_8 : Ref sig .tc := ⟨.hbm, 45, rfl⟩
abbrev main_call4_v0 : Ref sig .tc := ⟨.hbm, 46, rfl⟩
abbrev main_call4_v1 : Ref sig .tc := ⟨.hbm, 47, rfl⟩
abbrev main_call4_v2 : Ref sig .tc := ⟨.hbm, 48, rfl⟩
abbrev main_call4_v3 : Ref sig .tc := ⟨.hbm, 49, rfl⟩
abbrev main_call4_v4 : Ref sig .tc := ⟨.hbm, 50, rfl⟩
abbrev main_v14 : Ref sig .tc := ⟨.hbm, 51, rfl⟩
abbrev main_cst_9 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_cst_10 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_cst_11 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_cst_12 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_cst_13 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_cst_14 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_cst_15 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_cst_16 : Ref sig .tc := ⟨.hbm, 94, rfl⟩
abbrev main_v50 : Ref sig .tc := ⟨.hbm, 95, rfl⟩
abbrev main_v51 : Ref sig .tc := ⟨.hbm, 96, rfl⟩
abbrev main_cst_17 : Ref sig .tc := ⟨.hbm, 97, rfl⟩
abbrev main_v52 : Ref sig .tc := ⟨.hbm, 98, rfl⟩
abbrev main_v53 : Ref sig .tc := ⟨.hbm, 99, rfl⟩
abbrev main_cst_18 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_cst_19 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_cst_20 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_cst_21 : Ref sig .tc := ⟨.hbm, 131, rfl⟩
abbrev main_v82 : Ref sig .tc := ⟨.hbm, 132, rfl⟩
abbrev main_v83 : Ref sig .tc := ⟨.hbm, 133, rfl⟩
abbrev main_cst_22 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_cst_23 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_cst_24 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_cst_25 : Ref sig .tc := ⟨.hbm, 146, rfl⟩
abbrev main_v93 : Ref sig .tc := ⟨.hbm, 147, rfl⟩
abbrev main_v94 : Ref sig .tc := ⟨.hbm, 148, rfl⟩
abbrev main_cst_26 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_c : Ref sig .tc := ⟨.hbm, 156, rfl⟩
abbrev main_v101 : Ref sig .tc := ⟨.hbm, 157, rfl⟩
abbrev main_v102 : Ref sig .tc := ⟨.hbm, 158, rfl⟩
abbrev main_c_27 : Ref sig .tc := ⟨.hbm, 159, rfl⟩
abbrev main_call5_v0 : Ref sig .tc := ⟨.hbm, 160, rfl⟩
abbrev main_call5_v1 : Ref sig .tc := ⟨.hbm, 161, rfl⟩
abbrev main_v103 : Ref sig .tc := ⟨.hbm, 162, rfl⟩
abbrev main_c_28 : Ref sig .tc := ⟨.hbm, 163, rfl⟩
abbrev main_v104 : Ref sig .tc := ⟨.hbm, 164, rfl⟩
abbrev main_v105 : Ref sig .tc := ⟨.hbm, 165, rfl⟩
abbrev main_c_29 : Ref sig .tc := ⟨.hbm, 166, rfl⟩
abbrev main_call6_v0 : Ref sig .tc := ⟨.hbm, 167, rfl⟩
abbrev main_call6_v1 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_c_30 : Ref sig .tc := ⟨.hbm, 172, rfl⟩
abbrev main_v109 : Ref sig .tc := ⟨.hbm, 173, rfl⟩
abbrev main_v110 : Ref sig .tc := ⟨.hbm, 174, rfl⟩
abbrev main_c_31 : Ref sig .tc := ⟨.hbm, 175, rfl⟩
abbrev main_call8_v0 : Ref sig .tc := ⟨.hbm, 176, rfl⟩
abbrev main_call8_v1 : Ref sig .tc := ⟨.hbm, 177, rfl⟩
abbrev main_v111 : Ref sig .tc := ⟨.hbm, 178, rfl⟩
abbrev main_c_32 : Ref sig .tc := ⟨.hbm, 179, rfl⟩
abbrev main_v112 : Ref sig .tc := ⟨.hbm, 180, rfl⟩
abbrev main_v113 : Ref sig .tc := ⟨.hbm, 181, rfl⟩
abbrev main_c_33 : Ref sig .tc := ⟨.hbm, 182, rfl⟩
abbrev main_call9_v0 : Ref sig .tc := ⟨.hbm, 183, rfl⟩
abbrev main_call9_v1 : Ref sig .tc := ⟨.hbm, 184, rfl⟩
abbrev main_v114 : Ref sig .tc := ⟨.hbm, 185, rfl⟩
abbrev main_v115 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_cst_34 : Ref sig .tc := ⟨.hbm, 192, rfl⟩
abbrev main_v121 : Ref sig .tc := ⟨.hbm, 193, rfl⟩
abbrev main_v122 : Ref sig .tc := ⟨.hbm, 194, rfl⟩
abbrev main_cst_35 : Ref sig .tc := ⟨.hbm, 195, rfl⟩
abbrev main_v123 : Ref sig .tc := ⟨.hbm, 196, rfl⟩
abbrev main_v124 : Ref sig .tc := ⟨.hbm, 197, rfl⟩
abbrev main_v125 : Ref sig .tc := ⟨.hbm, 198, rfl⟩
abbrev main_c_36 : Ref sig .tc := ⟨.hbm, 199, rfl⟩
abbrev main_v126 : Ref sig .tc := ⟨.hbm, 200, rfl⟩
abbrev main_v127 : Ref sig .tc := ⟨.hbm, 201, rfl⟩
abbrev main_c_37 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_c_38 : Ref sig .tc := ⟨.hbm, 206, rfl⟩
abbrev main_v131 : Ref sig .tc := ⟨.hbm, 207, rfl⟩
abbrev main_v132 : Ref sig .tc := ⟨.hbm, 208, rfl⟩
abbrev main_c_39 : Ref sig .tc := ⟨.hbm, 209, rfl⟩
abbrev main_v133 : Ref sig .tc := ⟨.hbm, 210, rfl⟩
abbrev main_v134 : Ref sig .tc := ⟨.hbm, 211, rfl⟩
abbrev main_v135 : Ref sig .tc := ⟨.hbm, 212, rfl⟩
abbrev main_c_40 : Ref sig .tc := ⟨.hbm, 213, rfl⟩
abbrev main_v136 : Ref sig .tc := ⟨.hbm, 214, rfl⟩
abbrev main_v137 : Ref sig .tc := ⟨.hbm, 215, rfl⟩
abbrev main_c_41 : Ref sig .tc := ⟨.hbm, 216, rfl⟩
abbrev main_v138 : Ref sig .tc := ⟨.hbm, 217, rfl⟩
abbrev main_v139 : Ref sig .tc := ⟨.hbm, 218, rfl⟩
abbrev main_v140 : Ref sig .tc := ⟨.hbm, 219, rfl⟩
abbrev main_v141 : Ref sig .tc := ⟨.hbm, 220, rfl⟩
abbrev main_v142 : Ref sig .tc := ⟨.hbm, 221, rfl⟩
abbrev main_v143 : Ref sig .tc := ⟨.hbm, 222, rfl⟩
abbrev main_v144 : Ref sig .tc := ⟨.hbm, 223, rfl⟩
abbrev main_v145 : Ref sig .tc := ⟨.hbm, 224, rfl⟩
abbrev main_v146 : Ref sig .tc := ⟨.hbm, 225, rfl⟩
abbrev main_c_42 : Ref sig .tc := ⟨.hbm, 226, rfl⟩
abbrev main_v147 : Ref sig .tc := ⟨.hbm, 227, rfl⟩
abbrev main_v148 : Ref sig .tc := ⟨.hbm, 228, rfl⟩
abbrev main_c_43 : Ref sig .tc := ⟨.hbm, 229, rfl⟩
abbrev main_v149 : Ref sig .tc := ⟨.hbm, 230, rfl⟩
abbrev main_v150 : Ref sig .tc := ⟨.hbm, 231, rfl⟩
abbrev main_v151 : Ref sig .tc := ⟨.hbm, 232, rfl⟩
abbrev main_c_44 : Ref sig .tc := ⟨.hbm, 233, rfl⟩
abbrev main_v152 : Ref sig .tc := ⟨.hbm, 234, rfl⟩
abbrev main_v153 : Ref sig .tc := ⟨.hbm, 235, rfl⟩
abbrev main_c_45 : Ref sig .tc := ⟨.hbm, 236, rfl⟩
abbrev main_v154 : Ref sig .tc := ⟨.hbm, 237, rfl⟩
abbrev main_v155 : Ref sig .tc := ⟨.hbm, 238, rfl⟩
abbrev main_v156 : Ref sig .tc := ⟨.hbm, 239, rfl⟩
abbrev main_c_46 : Ref sig .tc := ⟨.hbm, 240, rfl⟩
abbrev main_v157 : Ref sig .tc := ⟨.hbm, 241, rfl⟩
abbrev main_v158 : Ref sig .tc := ⟨.hbm, 242, rfl⟩
abbrev main_c_47 : Ref sig .tc := ⟨.hbm, 243, rfl⟩
abbrev main_v159 : Ref sig .tc := ⟨.hbm, 244, rfl⟩
abbrev main_v160 : Ref sig .tc := ⟨.hbm, 245, rfl⟩
abbrev main_v161 : Ref sig .tc := ⟨.hbm, 246, rfl⟩
abbrev main_v162 : Ref sig .tc := ⟨.hbm, 247, rfl⟩
abbrev main_v163 : Ref sig .tc := ⟨.hbm, 248, rfl⟩
abbrev main_v164 : Ref sig .tc := ⟨.hbm, 249, rfl⟩
abbrev main_v165 : Ref sig .tc := ⟨.hbm, 250, rfl⟩
abbrev main_v166 : Ref sig .tc := ⟨.hbm, 251, rfl⟩
abbrev main_v167 : Ref sig .tc := ⟨.hbm, 252, rfl⟩
abbrev main_c_48 : Ref sig .tc := ⟨.hbm, 253, rfl⟩
abbrev main_v168 : Ref sig .tc := ⟨.hbm, 254, rfl⟩
abbrev main_v169 : Ref sig .tc := ⟨.hbm, 255, rfl⟩
abbrev main_c_49 : Ref sig .tc := ⟨.hbm, 256, rfl⟩
abbrev main_v170 : Ref sig .tc := ⟨.hbm, 257, rfl⟩
abbrev main_v171 : Ref sig .tc := ⟨.hbm, 258, rfl⟩
abbrev main_v172 : Ref sig .tc := ⟨.hbm, 259, rfl⟩
abbrev main_c_50 : Ref sig .tc := ⟨.hbm, 260, rfl⟩
abbrev main_v173 : Ref sig .tc := ⟨.hbm, 261, rfl⟩
abbrev main_v174 : Ref sig .tc := ⟨.hbm, 262, rfl⟩
abbrev main_c_51 : Ref sig .tc := ⟨.hbm, 263, rfl⟩
abbrev main_v175 : Ref sig .tc := ⟨.hbm, 264, rfl⟩
abbrev main_v176 : Ref sig .tc := ⟨.hbm, 265, rfl⟩
abbrev main_v177 : Ref sig .tc := ⟨.hbm, 266, rfl⟩
abbrev main_c_52 : Ref sig .tc := ⟨.hbm, 267, rfl⟩
abbrev main_v178 : Ref sig .tc := ⟨.hbm, 268, rfl⟩
abbrev main_v179 : Ref sig .tc := ⟨.hbm, 269, rfl⟩
abbrev main_c_53 : Ref sig .tc := ⟨.hbm, 270, rfl⟩
abbrev main_v180 : Ref sig .tc := ⟨.hbm, 271, rfl⟩
abbrev main_v181 : Ref sig .tc := ⟨.hbm, 272, rfl⟩
abbrev main_v182 : Ref sig .tc := ⟨.hbm, 273, rfl⟩
abbrev main_v183 : Ref sig .tc := ⟨.hbm, 274, rfl⟩
abbrev main_v184 : Ref sig .tc := ⟨.hbm, 275, rfl⟩
abbrev main_v185 : Ref sig .tc := ⟨.hbm, 276, rfl⟩
abbrev main_v186 : Ref sig .tc := ⟨.hbm, 277, rfl⟩
abbrev main_v187 : Ref sig .tc := ⟨.hbm, 278, rfl⟩
abbrev main_v188 : Ref sig .tc := ⟨.hbm, 279, rfl⟩
abbrev main_c_54 : Ref sig .tc := ⟨.hbm, 280, rfl⟩
abbrev main_v189 : Ref sig .tc := ⟨.hbm, 281, rfl⟩
abbrev main_v190 : Ref sig .tc := ⟨.hbm, 282, rfl⟩
abbrev main_c_55 : Ref sig .tc := ⟨.hbm, 283, rfl⟩
abbrev main_v191 : Ref sig .tc := ⟨.hbm, 284, rfl⟩
abbrev main_v192 : Ref sig .tc := ⟨.hbm, 285, rfl⟩
abbrev main_v193 : Ref sig .tc := ⟨.hbm, 286, rfl⟩
abbrev main_c_56 : Ref sig .tc := ⟨.hbm, 287, rfl⟩
abbrev main_v194 : Ref sig .tc := ⟨.hbm, 288, rfl⟩
abbrev main_v195 : Ref sig .tc := ⟨.hbm, 289, rfl⟩
abbrev main_c_57 : Ref sig .tc := ⟨.hbm, 290, rfl⟩
abbrev main_v196 : Ref sig .tc := ⟨.hbm, 291, rfl⟩
abbrev main_v197 : Ref sig .tc := ⟨.hbm, 292, rfl⟩
abbrev main_v198 : Ref sig .tc := ⟨.hbm, 293, rfl⟩
abbrev main_c_58 : Ref sig .tc := ⟨.hbm, 294, rfl⟩
abbrev main_v199 : Ref sig .tc := ⟨.hbm, 295, rfl⟩
abbrev main_v200 : Ref sig .tc := ⟨.hbm, 296, rfl⟩
abbrev main_c_59 : Ref sig .tc := ⟨.hbm, 297, rfl⟩
abbrev main_v201 : Ref sig .tc := ⟨.hbm, 298, rfl⟩
abbrev main_v202 : Ref sig .tc := ⟨.hbm, 299, rfl⟩
abbrev main_v203 : Ref sig .tc := ⟨.hbm, 300, rfl⟩
abbrev main_v204 : Ref sig .tc := ⟨.hbm, 301, rfl⟩
abbrev main_v205 : Ref sig .tc := ⟨.hbm, 302, rfl⟩
abbrev main_v206 : Ref sig .tc := ⟨.hbm, 303, rfl⟩
abbrev main_v207 : Ref sig .tc := ⟨.hbm, 304, rfl⟩
abbrev main_v208 : Ref sig .tc := ⟨.hbm, 305, rfl⟩
abbrev main_v209 : Ref sig .tc := ⟨.hbm, 306, rfl⟩
abbrev main_v210 : Ref sig .tc := ⟨.hbm, 307, rfl⟩
abbrev main_v211 : Ref sig .tc := ⟨.hbm, 308, rfl⟩
abbrev main_v212 : Ref sig .tc := ⟨.hbm, 309, rfl⟩
abbrev main_v213 : Ref sig .tc := ⟨.hbm, 310, rfl⟩
abbrev main_v214 : Ref sig .tc := ⟨.hbm, 311, rfl⟩
abbrev main_v215 : Ref sig .tc := ⟨.hbm, 312, rfl⟩
abbrev main_v216 : Ref sig .tc := ⟨.hbm, 313, rfl⟩
abbrev main_v217 : Ref sig .tc := ⟨.hbm, 314, rfl⟩
abbrev main_v218 : Ref sig .tc := ⟨.hbm, 315, rfl⟩
abbrev main_v219 : Ref sig .tc := ⟨.hbm, 316, rfl⟩
abbrev main_v220 : Ref sig .tc := ⟨.hbm, 317, rfl⟩
abbrev main_v221 : Ref sig .tc := ⟨.hbm, 318, rfl⟩
abbrev main_v222 : Ref sig .tc := ⟨.hbm, 319, rfl⟩
abbrev main_v223 : Ref sig .tc := ⟨.hbm, 320, rfl⟩
abbrev main_v224 : Ref sig .tc := ⟨.hbm, 321, rfl⟩
abbrev main_v225 : Ref sig .tc := ⟨.hbm, 322, rfl⟩
abbrev main_v226 : Ref sig .tc := ⟨.hbm, 323, rfl⟩
abbrev main_v227 : Ref sig .tc := ⟨.hbm, 324, rfl⟩
abbrev main_v228 : Ref sig .tc := ⟨.hbm, 325, rfl⟩
abbrev main_v229 : Ref sig .tc := ⟨.hbm, 326, rfl⟩
abbrev main_cst_60 : Ref sig .tc := ⟨.hbm, 327, rfl⟩
abbrev main_call11_v0 : Ref sig .tc := ⟨.hbm, 328, rfl⟩
abbrev main_call11_v1 : Ref sig .tc := ⟨.hbm, 329, rfl⟩
abbrev main_call11_v2 : Ref sig .tc := ⟨.hbm, 330, rfl⟩
abbrev main_v230 : Ref sig .tc := ⟨.hbm, 331, rfl⟩
abbrev main_v231 : Ref sig .tc := ⟨.hbm, 332, rfl⟩

abbrev nD : Nat := 1
abbrev τ : Topo := Topo.v7x

variable {F : FTy → Type} [FloatOps F]
-- ==== Proof.Tile.lean ====
/-  What one store of the kernel writes. A grid point works on 200 boxes, eight at a time: for each
    strip of eight boxes and each of the 49 samples of a box it writes one tile, eight boxes by all
    128 channels. Here a tile is spelt as the kernel spells it, over any kind of number, and the 1225
    tiles of a grid point are listed in the order of the stores, last first. -/
module

public import Idealize.ShloMosaic.Lib.Pipeline.ValueKit

@[expose] public section

set_option maxRecDepth 16384

noncomputable section

namespace Cert.RoiAlign

open Idealize.ShloMosaic hiding ix0 ix1 ix2 ix3 ix4 ix5
open Idealize.ShloMosaic.ValueIdx

/-- The block of box corners a grid point reads: 200 boxes, the left edge in lane 0 and the top edge in lane 1. -/
abbrev Corners : Shape := ⟨2, ![200, 128]⟩
/-- The table of pixels: sixteen rows (nine used) of 128 channels. -/
abbrev Table : Shape := ⟨2, ![16, 128]⟩
/-- The block a grid point writes: 49 samples, 200 boxes, 128 channels. -/
abbrev Block : Shape := ⟨3, ![49, 200, 128]⟩
/-- One table row, as loaded and with a leading axis. -/
abbrev Row : Shape := ⟨2, ![1, 128]⟩
@[inherit_doc Row] abbrev Row3 : Shape := ⟨3, ![1, 1, 128]⟩
/-- One edge of eight boxes, as loaded and with a leading axis. -/
abbrev Col : Shape := ⟨2, ![8, 1]⟩
@[inherit_doc Col] abbrev Col3 : Shape := ⟨3, ![1, 8, 1]⟩
/-- One tile: one sample of eight boxes, all channels. -/
abbrev TileS : Shape := ⟨3, ![1, 8, 128]⟩

/-- The first nine rows lie in the table, … -/
theorem row_inb (r : Fin 9) : ∀ a, (![r.val, 0] : Fin 2 → Nat) a + Row.size a ≤ Table.size a
  | ⟨0, _⟩ => show r.val + 1 ≤ 16 by omega
  | ⟨1, _⟩ => show 0 + 128 ≤ 128 by omega
/-- … the edges of every strip in the block of boxes, … -/
theorem col_inb (s : Fin 25) (l : Fin 2) : ∀ a, (![8 * s.val, l.val] : Fin 2 → Nat) a + Col.size a ≤ Corners.size a
  | ⟨0, _⟩ => show 8 * s.val + 8 ≤ 200 by omega
  | ⟨1, _⟩ => show l.val + 1 ≤ 128 by omega
/-- … and every tile in the block of samples. -/
theorem tile_inb (s : Fin 25) (i j : Fin 7) :
    ∀ a, (![7 * i.val + j.val, 8 * s.val, 0] : Fin 3 → Nat) a + TileS.size a ≤ Block.size a
  | ⟨0, _⟩ => show 7 * i.val + j.val + 1 ≤ 49 by omega
  | ⟨1, _⟩ => show 8 * s.val + 8 ≤ 200 by omega
  | ⟨2, _⟩ => show 0 + 128 ≤ 128 by omega

/-- Where row `r` of the table lies, … -/
abbrev rowAt (r : Fin 9) : Rect Table := Rect.unit (s := Table) ![r.val, 0] Row.size (row_inb r)
/-- … edge `l` of the boxes of strip `s`, … -/
abbrev colAt (s : Fin 25) (l : Fin 2) : Rect Corners := Rect.unit (s := Corners) ![8 * s.val, l.val] Col.size (col_inb s l)
/-- … and the tile of sample `(i, j)` of strip `s`. -/
abbrev tileAt (s : Fin 25) (i j : Fin 7) : Rect Block :=
  Rect.unit (s := Block) ![7 * i.val + j.val, 8 * s.val, 0] TileS.size (tile_inb s i j)

/-- The shapes agree in size: a row with itself, … -/
theorem row_casts : Row.ShapeCasts Row := by decide
/-- … a row with its form of three axes, … -/
theorem row_casts3 : Row.ShapeCasts Row3 := by decide
/-- … an edge with itself, … -/
theorem col_casts : Col.ShapeCasts Col := by decide
/-- … and an edge with its form of three axes. -/
theorem col_casts3 : Col.ShapeCasts Col3 := by decide
/-- A row can be spread over a tile … -/
theorem row_spreads : Row3.Broadcasts TileS := by decide
/-- … and so can an edge. -/
theorem col_spreads : Col3.Broadcasts TileS := by decide

variable {F : FTy → Type} [FloatOps F]

/-- Row `r` of the table. -/
def row (pc : Vec F Table .f32) (r : Fin 9) : FVec F Row3 .f32 :=
  shapeCast Row3 (shapeCast Row (View.ld pc (rowAt r)) row_casts) row_casts3

/-- Edge `l` of the boxes of strip `s`, clipped to the image. -/
def edge (xy : Vec F Corners .f32) (s : Fin 25) (l : Fin 2) : FVec F Col3 .f32 :=
  shapeCast Col3 (minimumf (broadcast Col (Scalar.ofBits .f32 0x437F0000#32))
    (maximumf (broadcast Col (Scalar.ofBits .f32 0x00000000#32)) (shapeCast Col (View.ld xy (colAt s l)) col_casts))) col_casts3

/-- A number per box, and a number per channel, spread over a tile. -/
def perBox (v : FVec F Col3 .f32) : FVec F TileS .f32 := broadcastTo TileS v col_spreads
@[inherit_doc perBox] def perChan (v : FVec F Row3 .f32) : FVec F TileS .f32 := broadcastTo TileS v row_spreads

/-- A sample's distance from the line through the middle pixels: the box's edge plus the sample's centre. -/
def dist (e : FVec F Col3 .f32) (c : F .f32) : FVec F Col3 .f32 := addf e (broadcast Col3 c)
/-- Its part to the right of the line, … -/
def right (u : FVec F Col3 .f32) : FVec F Col3 .f32 := maximumf u (broadcast Col3 (Scalar.ofBits .f32 0x00000000#32))
/-- … and to the left. -/
def left (u : FVec F Col3 .f32) : FVec F Col3 .f32 := subf (right u) u
/-- A row of three pixels read at the distance `u`: the middle one, and what the two beside it add. -/
def along (u : FVec F Col3 .f32) (p q r : FVec F Row3 .f32) : FVec F TileS .f32 :=
  addf (addf (perChan p) (mulf (perBox (left u)) (perChan q))) (mulf (perBox (right u)) (perChan r))
/-- The distance in the other direction, over a tile. -/
def across (v : FVec F Col3 .f32) : FVec F TileS .f32 :=
  mulf (perBox v) (perChan (broadcast Row3 (Scalar.ofBits .f32 0x3F800000#32)))

/-- The tile: the middle row of pixels, and the size of the distance across times the row above's or the row below's
    difference from it. -/
def tile (xy : Vec F Corners .f32) (pc : Vec F Table .f32) (c : Fin 7 → F .f32) (s : Fin 25) (i j : Fin 7) : FVec F TileS .f32 :=
  addf (along (dist (edge xy s 0) (c j)) (row pc 0) (row pc 1) (row pc 2))
    (mulf (absf (across (dist (edge xy s 1) (c i))))
      (select (cmpf .olt (across (dist (edge xy s 1) (c i))) (broadcast TileS (Scalar.ofBits .f32 0x00000000#32)))
        (along (dist (edge xy s 0) (c j)) (row pc 3) (row pc 4) (row pc 5))
        (along (dist (edge xy s 0) (c j)) (row pc 6) (row pc 7) (row pc 8))))

/-- The strips, and the rows and columns of samples, from the last to the first. -/
abbrev strips : List (Fin 25) := [24, 23, 22, 21, 20, 19, 18, 17, 16, 15, 14, 13, 12, 11, 10, 9, 8, 7, 6, 5, 4, 3, 2, 1, 0]
@[inherit_doc strips] abbrev sevens : List (Fin 7) := [6, 5, 4, 3, 2, 1, 0]

/-- Every tile of a grid point where it lies, the last one written first. -/
def tiles (xy : Vec F Corners .f32) (pc : Vec F Table .f32) (c : Fin 7 → F .f32) : List (View.Piece (Elt F) Block .f32) :=
  strips.flatMap fun s => sevens.flatMap fun j => sevens.map fun i => ⟨tileAt s i j, tile xy pc c s i j⟩

/-- The tiles cover the block. -/
theorem tiles_cover (xy : Vec F Corners .f32) (pc : Vec F Table .f32) (c : Fin 7 → F .f32) (y : Block.Idx) :
    ∃ p ∈ tiles xy pc c, y ∈ p.1.set := by
  have h0 : (y 0).val < 49 := (y 0).isLt
  have h1 : (y 1).val < 200 := (y 1).isLt
  have h2 : (y 2).val < 128 := (y 2).isLt
  have hs : ∀ s : Fin 25, s ∈ strips := by decide
  have h7 : ∀ i : Fin 7, i ∈ sevens := by decide
  refine ⟨_, List.mem_flatMap.mpr ⟨⟨(y 1).val / 8, by omega⟩, hs _, List.mem_flatMap.mpr ⟨⟨(y 0).val % 7, by omega⟩, h7 _,
    List.mem_map.mpr ⟨⟨(y 0).val / 7, by omega⟩, h7 _, rfl⟩⟩⟩, ?_⟩
  refine (Rect.mem_set_unit (inb := tile_inb _ _ _)).mpr fun a => ?_
  match a with
  | ⟨0, _⟩ => exact (show 7 * ((y 0).val / 7) + (y 0).val % 7 ≤ (y 0).val ∧ (y 0).val < 7 * ((y 0).val / 7) + (y 0).val % 7 + 1 by omega)
  | ⟨1, _⟩ => exact (show 8 * ((y 1).val / 8) ≤ (y 1).val ∧ (y 1).val < 8 * ((y 1).val / 8) + 8 by omega)
  | ⟨2, _⟩ => exact (show 0 ≤ (y 2).val ∧ (y 2).val < 0 + 128 by omega)

end Cert.RoiAlign

end
-- ==== Proof.BodyIdeal.lean ====
/-  The kernel with its named centres, run: what its host lines leave alone, what its body writes (the tiles of
    Tile.lean), and the whole program's run. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Tile
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 65536

noncomputable section

namespace Cert.KernelIdeal.Body

open Cert.KernelIdeal Cert.KernelIdeal.Gen Cert.RoiAlign
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The host lines around the pipeline -/

/-- The buffers of core `c` when the pipeline starts: the host lines before it have run. -/
abbrev V0 (c : Dev nD) : Valuation τ sig (Elt F) := StableHlo.after (List.flatten [hostOps0, hostOps0_1, hostOps0_2, hostOps0_3]) (fun b => m (c, b))
/-- The same, of one named buffer. -/
abbrev V (c : Dev nD) (b : Ref sig .tc) : Buf (Elt F) ((c : Thread nD τ).loc b) := V0 m c (Proc.devRef .tc b)

/-- No host line of the program allocates a buffer. -/
theorem hostOps0_fresh : (hostOps0 : List (HloOp τ sig (Elt F))).Forall fun op => op.fresh = ∅ := by
  simp only [List.Forall]; repeat' constructor
/-- Nor do these. -/
theorem hostOps0_1_fresh : (hostOps0_1 : List (HloOp τ sig (Elt F))).Forall fun op => op.fresh = ∅ := by
  simp only [List.Forall]; repeat' constructor
/-- Nor do these. -/
theorem hostOps0_2_fresh : (hostOps0_2 : List (HloOp τ sig (Elt F))).Forall fun op => op.fresh = ∅ := by
  simp only [List.Forall]; repeat' constructor
/-- Nor do these. -/
theorem hostOps0_3_fresh : (hostOps0_3 : List (HloOp τ sig (Elt F))).Forall fun op => op.fresh = ∅ := by
  simp only [List.Forall]; repeat' constructor
/-- Nor do these. -/
theorem hostOps1_fresh : (hostOps1 : List (HloOp τ sig (Elt F))).Forall fun op => op.fresh = ∅ := by
  simp only [List.Forall]; repeat' constructor

set_option maxHeartbeats 800000 in
/-- The program is its host lines, the pipeline, and the host lines that lay the result out. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2, hostOps0_3] [hostOps1] (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- The lines after the pipeline read and write the program's own buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- Those lines allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- Those lines write none of the pipeline's arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-- The host lines before the pipeline leave `main_arg0` as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- The host lines before the pipeline leave `main_arg1` as it was. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does the rest of the program change `main_arg0`. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- Nor does the rest of the program change `main_arg1`. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-! ## The windows' blocks -/

/-- The block that window `w` shows at grid point `t`, of its array as the pipeline finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body finds the block of boxes of its grid point, whether it was copied in at this point or earlier. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The body finds the table of pixels, which is copied in once. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The arguments, from what a run leaves -/

/-- A run that leaves the pipeline's arrays and every other buffer as computed leaves the arguments unchanged. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c))⟩) h

/-! ## What the body leaves -/

/-- The centres of the seven samples across a box, less one: the first index is the leftmost or topmost sample. -/
def centres : Fin 7 → F .f32 := ![Named.named κ "centre0" 0xBF6DB6DB#32, Named.named κ "centre1" 0xBF492492#32, Named.named κ "centre2" 0xBF249249#32, Scalar.ofBits .f32 0xBF000000#32, Named.named κ "centre4" 0xBEB6DB6E#32, Named.named κ "centre5" 0xBE5B6DB7#32, Named.named κ "centre6" 0xBD924925#32]

/-- The block a grid point writes, from the block of box corners and the table of pixels: the tiles, written one
    after another. -/
def out (x0 : Vec F S200x128 .f32) (x1 : Vec F S16x128 .f32) : Vec F S49x200x128 .f32 := View.canon (tiles x0 x1 centres)

/-! ## The body's triple -/

set_option maxHeartbeats 0 in
/-- The body, on a block of boxes and the table: it leaves both as they were, and its output holds the tiles, whatever was
    in it before. -/
theorem sound_kernel (c : Dev nD) (E : Set ℕ) (i : grid0.Coords) (arg1 : Memref sig .tc .vmem S200x128 .f32) (harg1 : arg1.IsWhole) (arg2 : Memref sig .tc .vmem S16x128 .f32) (harg2 : arg2.IsWhole) (arg3 : Memref sig .tc .vmem S49x200x128 .f32) (harg3 : arg3.IsWhole)
    (x0 : Vec F S200x128 .f32) (x1 : Vec F S16x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out x0 x1)) -∗ K ⟨⟩))
      ⊢ wp frame (wpE (defs₀ (F := F)) Variants.none c none) E (cc0__lambda_ i arg1 harg1 arg2 harg2 arg3 harg3) K := by
  simp only [cc0__lambda__eq_skeleton]; unfold cc0__lambda__skel
  simp only [k0_part302_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part303_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part304_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part305_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part306_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ (tiles _ _ centres) (tiles_cover _ _ _)

/-! ## The pipeline, point by point -/

/-- What holds at each grid point: the arrays as the pipeline finds them, the two input blocks as they were copied in, and
    the output block as `out` of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out (iblk m c 0 t) (iblk m c 1 t)
  Φ _ := Pipeline.ΦA spec0 c
  q _ := fullShare
  owed _ := 0

/-- The arrays are those that the pipeline finds. -/
theorem A_eq (c : Dev nD) (w : Fin cfg0.W) : (dats m 0 c).A w = V m c (Pipeline.arrRef spec0 w) := by
  dsimp only [dats]

/-- The body leaves the block of boxes as it was. -/
theorem after0_0 (c : Dev nD) (t : Fin cfg0.N) : (dats m 0 c).after 0 t = iblk m c 0 t := by dsimp only [dats]
/-- It leaves the table as it was. -/
theorem after0_1 (c : Dev nD) (t : Fin cfg0.N) : (dats m 0 c).after 1 t = iblk m c 1 t := by dsimp only [dats]
/-- It leaves `out` in the output block. -/
theorem after0_2 (c : Dev nD) (t : Fin cfg0.N) : (dats m 0 c).after 2 t = out (iblk m c 0 t) (iblk m c 1 t) := by dsimp only [dats]

/-- What the body finds in its first input. -/
theorem before0_0 (c : Dev nD) (t : Fin cfg0.N) (d) : (dats m 0 c).before 0 t d = iblk m c 0 t :=
  before0_0_of m (dats m 0 c) (A_eq m c 0) (after0_0 m c) t d
/-- The table, likewise. -/
theorem before0_1 (c : Dev nD) (t : Fin cfg0.N) (d) : (dats m 0 c).before 1 t d = iblk m c 1 t :=
  before0_1_of m (dats m 0 c) (A_eq m c 1) (after0_1 m c) t d

/-! ## The body at a grid point -/

/-- What the body is called with at grid point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What the body returns at grid point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body is right at every grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The function that the pipeline calls at a grid point is the body. -/
theorem defs₀_row (t : Fin cfg0.N) :
    defs₀ (F := F) .tc cfg0.body (cfg0.bodyArgs t (cfg0.slots t)) = bodyAt0 t := by
  unfold defs₀; rw [Defs.onTc_tc]

/-- The body is right at every grid point, as the pipeline's theorem asks it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every run ends, with the arrays as computed from the blocks and every semaphore counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- Every run ends, with the arrays as computed from the blocks and every other buffer as the last host lines leave it. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- Every run ends with the arguments unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- Every run ends, with the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Body

end
-- ==== Proof.Patch.lean ====
/-  What the kernel's host lines make of the arguments: the two edges of every box, and the table of a patch of pixels. -/
module

public import proofs.«01_k».proof.Proof.Gen.KernelIdeal.Launch
public import Idealize.ShloMosaic.Lib.StableHlo.Run
public import Idealize.ShloMosaic.Lib.KernelVsHost
public import Idealize.ShloMosaic.Lib.Pipeline.ValueKit

@[expose] public section

set_option maxRecDepth 16384

noncomputable section

namespace Cert.KernelIdeal.Patch

open Cert.KernelIdeal Cert.KernelIdeal.Gen
open Idealize.ShloMosaic hiding ix0 ix1 ix2 ix3 ix4 ix5
open Idealize.ShloMosaic.ValueIdx Idealize.ShloMosaic.TcCoe

variable {F : FTy → Type} [FloatOps F] [Named F]

/-- The padding value. -/
def zeroF : FVec F S_ .f32 := sitofp .f32 (constantI S_ 32 0#32)

/-- The left and top edges of the boxes, in the first two of 128 lanes. -/
def edges (x1 : FVec F S5000x5 .f32) : FVec F S5000x128 .f32 :=
  pad S5000x128 ![0, 0] ![0, 126] ![0, 0] (extractStridedSlice S5000x2 ![0, 1] x1 slices_S5000x5_S5000x2_0_1) zeroF
    pads_S5000x2_S5000x128_000_01260 h_S_

/-- The three by three corner of image 0, a row of channels per pixel. -/
def pixels (x0 : FVec F S4x128x256x256 .f32) : FVec F S3x3x128 .f32 :=
  transpose S3x3x128 [1, 2, 0]
    (shapeCast S128x3x3 (extractStridedSlice S1x128x3x3 ![0, 0, 0, 0] x0 slices_S4x128x256x256_S1x128x3x3_0_0_0_0)
      shapeCasts_S1x128x3x3_S128x3x3) transposes_S128x3x3_S3x3x128_1_2_0

/-- Every column lies in the patch … -/
theorem column_slices (q : Fin 3) : S3x3x128.Slices ![0, q.val, 0] S3x1x128 := by revert q; decide
/-- … and every row in a column. -/
theorem row_slices (r : Fin 3) : S3x128.Slices ![r.val, 0] S1x128 := by revert r; decide

/-- Column `q` of the corner. -/
def column (x0 : FVec F S4x128x256x256 .f32) (q : Fin 3) : FVec F S3x128 .f32 :=
  shapeCast S3x128 (extractStridedSlice S3x1x128 ![0, q.val, 0] (pixels x0) (column_slices q)) shapeCasts_S3x1x128_S3x128
/-- What an outer column has over the middle one. -/
def over (x0 : FVec F S4x128x256x256 .f32) (q : Fin 3) : FVec F S3x128 .f32 := subf (column x0 q) (column x0 1)
/-- Row `r` of a column. -/
def line (a : FVec F S3x128 .f32) (r : Fin 3) : FVec F S128 .f32 :=
  shapeCast S128 (extractStridedSlice S1x128 ![r.val, 0] a (row_slices r)) shapeCasts_S1x128_S128
/-- What an outer row has over the middle one. -/
def beside (a : FVec F S3x128 .f32) (r : Fin 3) : FVec F S128 .f32 := subf (line a r) (line a 1)
/-- A row as a table of one row. -/
def single (a : FVec F S128 .f32) : FVec F S1x128 .f32 := broadcastInDim S1x128 ![1] bcast_S128_S1x128_1 a

/-- Nine rows one under another. -/
def stack (a b c d e f g h i : FVec F S1x128 .f32) : FVec F S9x128 .f32 :=
  concatenate S9x128 0 [⟨S1x128, a⟩, ⟨S1x128, b⟩, ⟨S1x128, c⟩, ⟨S1x128, d⟩, ⟨S1x128, e⟩, ⟨S1x128, f⟩, ⟨S1x128, g⟩, ⟨S1x128, h⟩, ⟨S1x128, i⟩]
    concatenates_S1x128_S1x128_S1x128_S1x128_S1x128_S1x128_S1x128_S1x128_S1x128_S9x128_d0
/-- Equal rows make equal stacks. -/
theorem stack_congr {a b c d e f g h i a' b' c' d' e' f' g' h' i' : FVec F S1x128 .f32} (ha : a = a') (hb : b = b') (hc : c = c')
    (hd : d = d') (he : e = e') (hf : f = f') (hg : g = g') (hh : h = h') (hi : i = i') :
    stack a b c d e f g h i = stack a' b' c' d' e' f' g' h' i' := by
  subst ha hb hc hd he hf hg hh hi; rfl

/-- The nine rows of the table. -/
def nine (x0 : FVec F S4x128x256x256 .f32) : FVec F S9x128 .f32 :=
  stack (single (line (column x0 1) 1)) (single (line (over x0 0) 1)) (single (line (over x0 2) 1))
    (single (beside (column x0 1) 0)) (single (beside (over x0 0) 0)) (single (beside (over x0 2) 0))
    (single (beside (column x0 1) 2)) (single (beside (over x0 0) 2)) (single (beside (over x0 2) 2))

/-- The table, filled up to sixteen rows. -/
def rows (x0 : FVec F S4x128x256x256 .f32) : FVec F S16x128 .f32 :=
  pad S16x128 ![0, 0] ![7, 0] ![0, 0] (nine x0) zeroF pads_S9x128_S16x128_070_000 h_S_

/-- The lines that build the table. -/
theorem nine_rows (W : Valuation τ sig (Elt F)) :
    StableHlo.after hostOps0_2 W (Proc.devRef .tc main_v58) = nine (W (Proc.devRef .tc main_arg0)) := by
  simp only [hostOps0_2, StableHlo.after_cons, StableHlo.after_nil]
  rw [StableHlo.nullary_result_ne]; rotate_left; decide
  rw [StableHlo.nary_result]
  refine stack_congr ?_ ?_ ?_ ?_ ?_ ?_ ?_ ?_ ?_
  · change (_ : Valuation τ sig (Elt F)) (Proc.devRef .tc main_v49) = _; after_results_simp; rfl
  · change (_ : Valuation τ sig (Elt F)) (Proc.devRef .tc main_v50) = _; after_results_simp; rfl
  · change (_ : Valuation τ sig (Elt F)) (Proc.devRef .tc main_v51) = _; after_results_simp; rfl
  · change (_ : Valuation τ sig (Elt F)) (Proc.devRef .tc main_v52) = _; after_results_simp; rfl
  · change (_ : Valuation τ sig (Elt F)) (Proc.devRef .tc main_v53) = _; after_results_simp; rfl
  · change (_ : Valuation τ sig (Elt F)) (Proc.devRef .tc main_v54) = _; after_results_simp; rfl
  · change (_ : Valuation τ sig (Elt F)) (Proc.devRef .tc main_v55) = _; after_results_simp; rfl
  · change (_ : Valuation τ sig (Elt F)) (Proc.devRef .tc main_v56) = _; after_results_simp; rfl
  · change (_ : Valuation τ sig (Elt F)) (Proc.devRef .tc main_v57) = _; after_results_simp; rfl

/-- The host lines before the body leave the boxes' edges in the first operand … -/
theorem first_operand (W : Valuation τ sig (Elt F)) :
    StableHlo.after (List.flatten [hostOps0, hostOps0_1, hostOps0_2, hostOps0_3]) W (Proc.devRef .tc main_v1) =
      edges (W (Proc.devRef .tc main_arg1)) := by
  simp only [hostOps0, hostOps0_1, hostOps0_2, hostOps0_3, List.flatten_cons, List.flatten_nil, List.append_nil, List.cons_append, List.nil_append]
  after_results <;> rfl

/-- The lines that fill the table up. -/
theorem fill (W : Valuation τ sig (Elt F)) : StableHlo.after hostOps0_3 W (Proc.devRef .tc main_v59) =
    pad S16x128 ![0, 0] ![7, 0] ![0, 0] (W (Proc.devRef .tc main_v58)) (sitofp .f32 (W (Proc.devRef .tc main_c_0))) pads_S9x128_S16x128_070_000 h_S_ := by
  simp only [hostOps0_3]
  after_results <;> rfl

/-- What they fill it up with. -/
theorem fill_value (W : Valuation τ sig (Elt F)) : StableHlo.after hostOps0_2 W (Proc.devRef .tc main_c_0) = constantI S_ 32 0#32 := by
  simp only [hostOps0_2]
  after_results <;> rfl

/-- The lines before the table's leave the images alone. -/
theorem images_kept (W : Valuation τ sig (Elt F)) :
    StableHlo.after hostOps0_1 (StableHlo.after hostOps0 W) (Proc.devRef .tc main_arg0) = W (Proc.devRef .tc main_arg0) := by
  simp only [hostOps0, hostOps0_1]
  after_results <;> rfl

/-- … and the table in the second. -/
theorem second_operand (W : Valuation τ sig (Elt F)) :
    StableHlo.after (List.flatten [hostOps0, hostOps0_1, hostOps0_2, hostOps0_3]) W (Proc.devRef .tc main_v59) =
      rows (W (Proc.devRef .tc main_arg0)) := by
  simp only [List.flatten_cons, List.flatten_nil, List.append_nil, StableHlo.after_append]
  rw [fill, fill_value, nine_rows, images_kept]
  rfl

end Cert.KernelIdeal.Patch

end
-- ==== Proof.Numbers.lean ====
/-  The numbers of the computation: the float literals of both programs as real numbers, a box
    coordinate as a real number, and where a sample point lies on the pixel grid. -/
module

public import Idealize.ShloMosaic.Lib.Pipeline.ValueKit
public import Idealize.ShloMosaic.Lib.ValueIdx

@[expose] public section

noncomputable section

namespace Cert.RoiAlign

open Idealize.ShloMosaic

/-! ## Literals -/

/-- The literal 0. -/
theorem lit_zero : (FloatOps.ofBits (F := Ideal) .f32 0x00000000#32 : EReal) = ((0 : ℝ) : EReal) := by
  show Ideal.ofBits .f32 _ = _
  simp [Ideal.ofBits, Ideal.ieee, -EReal.coe_mul]
/-- The literal 1/2. -/
theorem lit_half : (FloatOps.ofBits (F := Ideal) .f32 0x3F000000#32 : EReal) = ((1 / 2 : ℝ) : EReal) := by
  show Ideal.ofBits .f32 _ = _
  simp [Ideal.ofBits, Ideal.ieee, -EReal.coe_mul]; norm_num
/-- The literal −1/2. -/
theorem lit_neg_half : (FloatOps.ofBits (F := Ideal) .f32 0xBF000000#32 : EReal) = ((-1 / 2 : ℝ) : EReal) := by
  show Ideal.ofBits .f32 _ = _
  simp [Ideal.ofBits, Ideal.ieee, -EReal.coe_mul, -EReal.coe_neg]; norm_num
/-- The literal 1. -/
theorem lit_one : (FloatOps.ofBits (F := Ideal) .f32 0x3F800000#32 : EReal) = ((1 : ℝ) : EReal) := by
  show Ideal.ofBits .f32 _ = _
  simp [Ideal.ofBits, Ideal.ieee, -EReal.coe_mul]; norm_num
/-- The literal −1. -/
theorem lit_neg_one : (FloatOps.ofBits (F := Ideal) .f32 0xBF800000#32 : EReal) = ((-1 : ℝ) : EReal) := by
  show Ideal.ofBits .f32 _ = _
  simp [Ideal.ofBits, Ideal.ieee, -EReal.coe_mul, -EReal.coe_neg]; norm_num
/-- The literal 3. -/
theorem lit_three : (FloatOps.ofBits (F := Ideal) .f32 0x40400000#32 : EReal) = ((3 : ℝ) : EReal) := by
  show Ideal.ofBits .f32 _ = _
  simp [Ideal.ofBits, Ideal.ieee, -EReal.coe_mul]; norm_num
/-- The literal 7. -/
theorem lit_seven : (FloatOps.ofBits (F := Ideal) .f32 0x40E00000#32 : EReal) = ((7 : ℝ) : EReal) := by
  show Ideal.ofBits .f32 _ = _
  simp [Ideal.ofBits, Ideal.ieee, -EReal.coe_mul]; norm_num
/-- The literal 255. -/
theorem lit_255 : (FloatOps.ofBits (F := Ideal) .f32 0x437F0000#32 : EReal) = ((255 : ℝ) : EReal) := by
  show Ideal.ofBits .f32 _ = _
  simp [Ideal.ofBits, Ideal.ieee, -EReal.coe_mul]; norm_num
/-- The literal 256. -/
theorem lit_256 : (FloatOps.ofBits (F := Ideal) .f32 0x43800000#32 : EReal) = ((256 : ℝ) : EReal) := by
  show Ideal.ofBits .f32 _ = _
  simp [Ideal.ofBits, Ideal.ieee, -EReal.coe_mul]; norm_num
/-- The literal +∞. -/
theorem lit_inf : (FloatOps.ofBits (F := Ideal) .f32 0x7F800000#32 : EReal) = (⊤ : EReal) := by
  show Ideal.ofBits .f32 _ = _
  simp [Ideal.ofBits, Ideal.ieee]

/-! ## Maximum and minimum of reals -/

/-- The maximum of two reals is a real. -/
theorem max_coe (a b : ℝ) : max (a : EReal) (b : EReal) = ((max a b : ℝ) : EReal) :=
  (EReal.coe_strictMono.monotone.map_max).symm
/-- The minimum of two reals is a real. -/
theorem min_coe (a b : ℝ) : min (a : EReal) (b : EReal) = ((min a b : ℝ) : EReal) :=
  (EReal.coe_strictMono.monotone.map_min).symm

/-! ## A box coordinate -/

/-- The real number a box coordinate stands for once its negative part is cut off. -/
def corner (z : EReal) : ℝ := (max 0 z).toReal

/-- Below 1 the cut-off coordinate is a real … -/
theorem max_zero_eq {z : EReal} (h : z < 1) : max ((0 : ℝ) : EReal) z = (corner z : EReal) := by
  rw [EReal.coe_zero]
  unfold corner
  rw [EReal.coe_toReal]
  · exact ne_of_lt (max_lt (EReal.zero_lt_top) (lt_trans h (by exact_mod_cast EReal.coe_lt_top 1)))
  · exact ne_of_gt (lt_of_lt_of_le EReal.bot_lt_zero (le_max_left _ _))
/-- … which is not negative … -/
theorem corner_nonneg {z : EReal} (h : z < 1) : 0 ≤ corner z := by
  have h0 : ((0 : ℝ) : EReal) ≤ (corner z : EReal) := by rw [← max_zero_eq h]; exact le_max_left _ _
  exact_mod_cast h0
/-- … and is below 1. -/
theorem corner_lt_one {z : EReal} (h : z < 1) : corner z < 1 := by
  have h1 : (corner z : EReal) < ((1 : ℝ) : EReal) := by
    rw [← max_zero_eq h]; exact max_lt (by exact_mod_cast zero_lt_one) (by exact_mod_cast h)
  exact_mod_cast h1
/-- An upper bound of at least 1 changes nothing: clipping a coordinate below 1 to `[0, b]`. -/
theorem clip_zero {z : EReal} (h : z < 1) {b : ℝ} (hb : 1 ≤ b) :
    min (b : EReal) (max ((0 : ℝ) : EReal) z) = (corner z : EReal) := by
  rw [max_zero_eq h, min_coe, min_eq_right (le_trans (corner_lt_one h).le hb)]
/-- Clipping a coordinate below 1 to `[1, b]` gives 1. -/
theorem clip_one {z : EReal} (h : z < 1) {b : ℝ} (hb : 1 ≤ b) :
    min (b : EReal) (max ((1 : ℝ) : EReal) z) = ((1 : ℝ) : EReal) := by
  rw [max_eq_left (by exact_mod_cast h.le), min_coe, min_eq_right hb]

/-! ## Sample points -/

/-- Sample point `n` of 7 of the unit interval that starts at `z`. -/
def sampleAt (z : ℝ) (n : Nat) : ℝ := z + ((n : ℝ) + 1 / 2) * (1 / 7)

/-- A sample point is positive. -/
theorem sampleAt_pos {z : ℝ} (h : 0 ≤ z) (n : Nat) : 0 < sampleAt z n := by
  unfold sampleAt; positivity
/-- A sample point is below 2. -/
theorem sampleAt_lt {z : ℝ} (h : z < 1) {n : Nat} (hn : n < 7) : sampleAt z n < 2 := by
  unfold sampleAt
  have : (n : ℝ) ≤ 6 := by exact_mod_cast Nat.le_of_lt_succ hn
  linarith

/-- The pixel a point of `[0, 2)` falls in: 0 or 1. -/
def low (t : ℝ) : Nat := if t < 1 then 0 else 1

/-- The pixel is at most 1. -/
theorem low_le (t : ℝ) : low t ≤ 1 := by unfold low; split <;> omega
/-- The pixel is the point rounded down. -/
theorem floor_eq_low {t : ℝ} (h0 : 0 ≤ t) (h2 : t < 2) : ⌊t⌋ = (low t : ℤ) := by
  unfold low
  split
  · rename_i h; rw [Int.floor_eq_iff]; constructor <;> push_cast <;> linarith
  · rename_i h; rw [Int.floor_eq_iff]; constructor <;> push_cast <;> linarith

/-- A small natural number as a float, converted to a 32-bit integer. -/
theorem fptosi_nat (n : Nat) (hn : n < 2 ^ 16) : FloatOps.fptosi (F := Ideal) (φ := .f32) 32 (((n : ℤ) : ℝ) : EReal) = BitVec.ofNat 32 n := by
  show Ideal.fptosi 32 _ = _
  rw [Ideal.fptosi, Ideal.toIntClamped_coe, if_pos (by positivity), Int.floor_intCast]
  rw [min_eq_right (by norm_num; omega), max_eq_right (by norm_num)]
  exact BitVec.ofInt_natCast 32 n

/-- A number of `[0, 1)` converts to the integer 0. -/
theorem fptosi_frac {z : ℝ} (h0 : 0 ≤ z) (h1 : z < 1) : FloatOps.fptosi (F := Ideal) (φ := .f32) 32 (z : EReal) = 0#32 := by
  show Ideal.fptosi 32 _ = _
  rw [Ideal.fptosi, Ideal.toIntClamped_coe, if_pos h0, Int.floor_eq_zero_iff.mpr ⟨h0, h1⟩]
  rfl

/-- The pixel of a point as the programs compute it: round down, then convert. -/
theorem pixel_word {t : ℝ} (h0 : 0 ≤ t) (h2 : t < 2) :
    FloatOps.fptosi (F := Ideal) (φ := .f32) 32 (FloatOps.hostUnary (F := Ideal) .floor (φ := .f32) (t : EReal)) = BitVec.ofNat 32 (low t) := by
  have e : (FloatOps.hostUnary (F := Ideal) .floor (φ := .f32) (t : EReal) : EReal) = (((low t : ℤ) : ℝ) : EReal) := by
    rw [Ideal.hostUnary_floor_def, Ideal.liftRound_coe, floor_eq_low h0 h2]
  rw [e]
  exact fptosi_nat _ (by have := low_le t; omega)

end Cert.RoiAlign
-- ==== Proof.TileValue.lean ====
/-  What the tiles hold, one number at a time, over the extended reals. -/
module

public import proofs.«01_k».proof.Proof.Tile
public import proofs.«01_k».proof.Proof.Numbers

@[expose] public section

set_option maxRecDepth 16384

noncomputable section

namespace Cert.RoiAlign

open Idealize.ShloMosaic hiding ix0 ix1 ix2 ix3 ix4 ix5
open Idealize.ShloMosaic.ValueIdx

/-- An edge clipped to the image. -/
def clipE (z : EReal) : EReal := min 255 (max 0 z)
/-- Three pixels in a row read at the distance `u` from the middle one: `q` and `r` are the outer ones' differences. -/
def alongE (u p q r : EReal) : EReal := p + (max u 0 - u) * q + max u 0 * r
/-- The kernel's value of one sample in one channel: `u` across and `v` down from the middle pixel, `p` the channel's
    nine table entries. -/
def pointE (u v : EReal) (p : Fin 9 → EReal) : EReal :=
  alongE u (p 0) (p 1) (p 2) + max v (-v) * (if v < 0 then alongE u (p 3) (p 4) (p 5) else alongE u (p 6) (p 7) (p 8))

/-- A table row spread over a tile, read at an element: the row's entry for the element's channel. -/
theorem row_apply (pc : Vec Ideal Table .f32) (r : Fin 9) (x : TileS.Idx) :
    perChan (row pc r) x = pc (ix2 ⟨r.val, by omega⟩ (x 2)) := by
  unfold perChan row
  refine (broadcastTo_apply _ row_spreads x (ix3 0 0 (x 2)) fun a => by
    match a with | ⟨0, _⟩ => rfl | ⟨1, _⟩ => rfl | ⟨2, _⟩ => rfl).trans ?_
  refine (shapeCast_addUnit_apply ![1, 128] _ row_casts3 (ix3 0 0 (x 2))).trans ?_
  refine (congrFun (shapeCast_self (View.ld pc (rowAt r)) row_casts) _).trans ?_
  refine View.ld_unit_apply_of pc _ _ (row_inb r) _ _ fun a => ?_
  match a with
  | ⟨0, _⟩ => exact (Nat.add_zero _).symm
  | ⟨1, _⟩ => exact (Nat.zero_add _).symm

/-- An edge of a tile's boxes, read at a box. -/
theorem edge_apply (xy : Vec Ideal Corners .f32) (s : Fin 25) (l : Fin 2) (b : Fin 8) :
    edge xy s l (ix3 0 b 0) = clipE (xy (ix2 ⟨8 * s.val + b.val, by omega⟩ ⟨l.val, by omega⟩)) := by
  have h : shapeCast Col (View.ld xy (colAt s l)) col_casts (ix2 b 0) = xy (ix2 ⟨8 * s.val + b.val, by omega⟩ ⟨l.val, by omega⟩) := by
    refine (congrFun (shapeCast_self (View.ld xy (colAt s l)) col_casts) _).trans ?_
    refine View.ld_unit_apply_of xy _ _ (col_inb s l) _ _ fun a => ?_
    match a with
    | ⟨0, _⟩ => rfl
    | ⟨1, _⟩ => exact (Nat.add_zero _).symm
  refine (shapeCast_addUnit_apply ![8, 1] _ col_casts3 (ix3 0 b 0)).trans ?_
  have e : (fun a => (ix3 0 b 0 : Col3.Idx) a.succ : Col.Idx) = ix2 b 0 := by
    funext a; match a with | ⟨0, _⟩ => rfl | ⟨1, _⟩ => rfl
  refine (congrArg _ e).trans ?_
  show min (FloatOps.ofBits (F := Ideal) .f32 0x437F0000#32 : EReal) (max (FloatOps.ofBits (F := Ideal) .f32 0x00000000#32 : EReal) _) = _
  rw [lit_255, lit_zero, h]
  rfl

/-- The distance of a tile's sample from the middle pixel, read at an element. -/
theorem dist_apply (xy : Vec Ideal Corners .f32) (s : Fin 25) (l : Fin 2) (d : EReal) (x : TileS.Idx) :
    perBox (dist (F := Ideal) (edge xy s l) d) x = clipE (xy (ix2 ⟨8 * s.val + (x 1).val, by have := (x 1).isLt; change _ < 8 at this; omega⟩ ⟨l.val, by omega⟩)) + d := by
  refine (broadcastTo_apply _ col_spreads x (ix3 0 (x 1) 0) fun a => by
    match a with | ⟨0, _⟩ => rfl | ⟨1, _⟩ => rfl | ⟨2, _⟩ => rfl).trans ?_
  exact congrArg (· + d) (edge_apply xy s l (x 1))

/-- A spread of a distance's right part, and of its left part, at an element. -/
theorem right_apply (u : FVec Ideal Col3 .f32) (x : TileS.Idx) : perBox (right u) x = max (perBox u x) 0 := by
  show max (perBox u x) (FloatOps.ofBits (F := Ideal) .f32 0x00000000#32 : EReal) = _
  rw [lit_zero]; rfl
@[inherit_doc right_apply] theorem left_apply (u : FVec Ideal Col3 .f32) (x : TileS.Idx) :
    perBox (left u) x = max (perBox u x) 0 - perBox u x := by
  rw [← right_apply]; rfl

/-- A row of three pixels read at a distance, at an element. -/
theorem along_apply (u : FVec Ideal Col3 .f32) (p q r : FVec Ideal Row3 .f32) (x : TileS.Idx) :
    along u p q r x = alongE (perBox u x) (perChan p x) (perChan q x) (perChan r x) := by
  show perChan p x + perBox (left u) x * perChan q x + perBox (right u) x * perChan r x = _
  rw [left_apply, right_apply]; rfl

/-- The distance across, at an element. -/
theorem across_apply (v : FVec Ideal Col3 .f32) (x : TileS.Idx) : across v x = perBox v x := by
  show perBox v x * (FloatOps.ofBits (F := Ideal) .f32 0x3F800000#32 : EReal) = _
  rw [lit_one, EReal.coe_one, mul_one]

/-- Whether the distance across is to the rows above picks the first of two tiles, or the second. -/
theorem above_apply (v a b : FVec Ideal TileS .f32) (x : TileS.Idx) :
    select (cmpf .olt v (broadcast TileS (Scalar.ofBits .f32 0x00000000#32))) a b x = if v x < 0 then a x else b x := by
  show Scalar.select (BitVec.ofBool (decide (v x < (FloatOps.ofBits (F := Ideal) .f32 0x00000000#32 : EReal)))) (a x) (b x) = _
  rw [lit_zero, EReal.coe_zero]
  by_cases h : v x < 0
  · rw [if_pos h, decide_eq_true h]; exact select_one _ _
  · rw [if_neg h, decide_eq_false h]; exact select_zero _ _

/-- One number of a tile. -/
theorem tile_apply (xy : Vec Ideal Corners .f32) (pc : Vec Ideal Table .f32) (c : Fin 7 → EReal) (s : Fin 25) (i j : Fin 7)
    (x : TileS.Idx) :
    tile (F := Ideal) xy pc c s i j x =
      pointE (perBox (dist (F := Ideal) (edge xy s 0) (c j)) x) (perBox (dist (F := Ideal) (edge xy s 1) (c i)) x)
        fun r => pc (ix2 ⟨r.val, by omega⟩ (x 2)) := by
  simp only [← row_apply]
  unfold pointE
  rw [← along_apply, ← along_apply, ← along_apply, ← across_apply, ← above_apply]
  rfl

/-- What a grid point's block holds at an element: the sample of the element's box in the element's channel. -/
def blockE (xy : Vec Ideal Corners .f32) (pc : Vec Ideal Table .f32) (c : Fin 7 → EReal) (y : Block.Idx) : EReal :=
  pointE (clipE (xy (ix2 (y 1) 0)) + c ⟨(y 0).val % 7, Nat.mod_lt _ (by decide)⟩)
    (clipE (xy (ix2 (y 1) 1)) + c ⟨(y 0).val / 7, by have : (y 0).val < 49 := (y 0).isLt; omega⟩)
    fun r => pc (ix2 ⟨r.val, by omega⟩ (y 2))

/-- The tiles laid over one another are the block. -/
theorem block_apply (xy : Vec Ideal Corners .f32) (pc : Vec Ideal Table .f32) (c : Fin 7 → EReal) (y : Block.Idx) :
    View.canon (tiles (F := Ideal) xy pc c) y = blockE xy pc c y := by
  refine View.canon_apply_of_pieces (blockE xy pc c) _ (fun p hp x => ?_) y (tiles_cover xy pc c y)
  obtain ⟨s, -, hp⟩ := List.mem_flatMap.mp hp
  obtain ⟨j, -, hp⟩ := List.mem_flatMap.mp hp
  obtain ⟨i, -, rfl⟩ := List.mem_map.mp hp
  have hx : (x 0).val = 0 := by have : (x 0).val < 1 := (x 0).isLt; omega
  have e (a : Fin 3) : ((tileAt s i j).emb x a).val = ![7 * i.val + j.val, 8 * s.val, 0] a + (x a).val :=
    Rect.idx_unit_val _ _ (tile_inb s i j) x a
  have e0 : ((tileAt s i j).emb x 0).val = 7 * i.val + j.val := (e 0).trans (by rw [hx]; rfl)
  have e1 : (tileAt s i j).emb x 1 = (⟨8 * s.val + (x 1).val, by have : (x 1).val < 8 := (x 1).isLt; omega⟩ : Fin 200) := Fin.ext (e 1)
  have e2 : (tileAt s i j).emb x 2 = (x 2 : Fin 128) := Fin.ext ((e 2).trans (Nat.zero_add _))
  have ej : (⟨((tileAt s i j).emb x 0).val % 7, Nat.mod_lt _ (by decide)⟩ : Fin 7) = j := Fin.ext (by show _ % 7 = _; rw [e0]; omega)
  have ei (h) : (⟨((tileAt s i j).emb x 0).val / 7, h⟩ : Fin 7) = i := Fin.ext (by show _ / 7 = _; rw [e0]; omega)
  refine (tile_apply xy pc c s i j x).trans ?_
  rw [dist_apply, dist_apply]
  unfold blockE
  rw [ej, ei, e1, e2]
  rfl

end Cert.RoiAlign

end
-- ==== Proof.RefSample.lean ====
/-  The reference, first half: the boxes it reads and the points it samples. Every box coordinate is
    below 1, so a box has width and height exactly 1 and its samples lie in `(0, 2)`. -/
module

public import proofs.«01_k».proof.Proof.Gen.ReferenceIdeal.Read
public import proofs.«01_k».proof.Proof.Numbers

@[expose] public section

set_option maxRecDepth 16384

noncomputable section

namespace Cert.RoiAlign.Ref

open Idealize.ShloMosaic hiding ix0 ix1 ix2 ix3 ix4 ix5
open Idealize.ShloMosaic.ValueIdx Cert.ReferenceIdeal Cert.ReferenceIdeal.Gen Cert.ReferenceIdeal.Read

/-- The boxes array. -/
abbrev Boxes : Type := (⟨S5000x5, .f32⟩ : BufTy).Contents (Elt Ideal)

/-- Every box coordinate is below 1. -/
abbrev Below (x1 : Boxes) : Prop := ∀ i : S5000x5.Idx, (x1 i : EReal) < 1

variable {x1 : Boxes}

/-- The clipped batch number of a box. -/
theorem v2 (h : Below x1) (i : S5000.Idx) : val_main_v2 (F := Ideal) x1 i = (corner (x1 (ix2 (i 0) 0)) : EReal) := by
  rw [val_main_v2_apply, val_main_call0_v4_apply, val_main_call0_v3_apply, val_main_cst_0_apply, val_main_call0_v2_apply,
    val_main_call0_v1_apply, val_main_call0_v0_apply, val_main_cst_apply, val_main_v1_apply, val_main_v0_apply, lit_three, lit_zero]
  rw [show idx_main_v0 (idx_main_v1 i) = ix2 (i 0) 0 from by
    funext a; match a with | ⟨0, _⟩ => exact Fin.ext (Nat.div_one _) | ⟨1, _⟩ => rfl]
  exact clip_zero (h _) (by norm_num)

/-- The clipped left edge of a box. -/
theorem v5 (h : Below x1) (i : S5000.Idx) : val_main_v5 (F := Ideal) x1 i = (corner (x1 (ix2 (i 0) 1)) : EReal) := by
  rw [val_main_v5_apply, val_main_call1_v4_apply, val_main_call1_v3_apply, val_main_cst_2_apply, val_main_call1_v2_apply,
    val_main_call1_v1_apply, val_main_call1_v0_apply, val_main_cst_1_apply, val_main_v4_apply, val_main_v3_apply, lit_255, lit_zero]
  rw [show idx_main_v3 (idx_main_v4 i) = ix2 (i 0) 1 from by
    funext a; match a with | ⟨0, _⟩ => exact Fin.ext (Nat.div_one _) | ⟨1, _⟩ => rfl]
  exact clip_zero (h _) (by norm_num)

/-- The clipped top edge of a box. -/
theorem v8 (h : Below x1) (i : S5000.Idx) : val_main_v8 (F := Ideal) x1 i = (corner (x1 (ix2 (i 0) 2)) : EReal) := by
  rw [val_main_v8_apply, val_main_call2_v4_apply, val_main_call2_v3_apply, val_main_cst_4_apply, val_main_call2_v2_apply,
    val_main_call2_v1_apply, val_main_call2_v0_apply, val_main_cst_3_apply, val_main_v7_apply, val_main_v6_apply, lit_255, lit_zero]
  rw [show idx_main_v6 (idx_main_v7 i) = ix2 (i 0) 2 from by
    funext a; match a with | ⟨0, _⟩ => exact Fin.ext (Nat.div_one _) | ⟨1, _⟩ => rfl]
  exact clip_zero (h _) (by norm_num)

/-- The clipped right edge of a box is 1. -/
theorem v11 (h : Below x1) (i : S5000.Idx) : val_main_v11 (F := Ideal) x1 i = ((1 : ℝ) : EReal) := by
  rw [val_main_v11_apply, val_main_call3_v4_apply, val_main_call3_v3_apply, val_main_cst_6_apply, val_main_call3_v2_apply,
    val_main_call3_v1_apply, val_main_call3_v0_apply, val_main_cst_5_apply, val_main_v10_apply, val_main_v9_apply, lit_256, lit_one]
  exact clip_one (h _) (by norm_num)

/-- The clipped bottom edge of a box is 1. -/
theorem v14 (h : Below x1) (i : S5000.Idx) : val_main_v14 (F := Ideal) x1 i = ((1 : ℝ) : EReal) := by
  rw [val_main_v14_apply, val_main_call4_v4_apply, val_main_call4_v3_apply, val_main_cst_8_apply, val_main_call4_v2_apply,
    val_main_call4_v1_apply, val_main_call4_v0_apply, val_main_cst_7_apply, val_main_v13_apply, val_main_v12_apply, lit_256, lit_one]
  exact clip_one (h _) (by norm_num)

/-- The right edge, kept at least 1 from the left edge, is 1 from it. -/
theorem v17 (h : Below x1) (i : S5000.Idx) : val_main_v17 (F := Ideal) x1 i = ((corner (x1 (ix2 (i 0) 1)) + 1 : ℝ) : EReal) := by
  rw [val_main_v17_apply, val_main_v16_apply, val_main_v15_apply, val_main_cst_9_apply, v5 h, v11 h, lit_one]
  show max ((_ : EReal) + _) _ = _
  rw [← EReal.coe_add, max_coe, max_eq_left]
  have := corner_nonneg (h (ix2 (i 0) 1)); linarith

/-- The bottom edge, kept at least 1 from the top edge, is 1 from it. -/
theorem v20 (h : Below x1) (i : S5000.Idx) : val_main_v20 (F := Ideal) x1 i = ((corner (x1 (ix2 (i 0) 2)) + 1 : ℝ) : EReal) := by
  rw [val_main_v20_apply, val_main_v19_apply, val_main_v18_apply, val_main_cst_10_apply, v8 h, v14 h, lit_one]
  show max ((_ : EReal) + _) _ = _
  rw [← EReal.coe_add, max_coe, max_eq_left]
  have := corner_nonneg (h (ix2 (i 0) 2)); linarith

/-- The boxes after clipping, as one array of five columns: column `k` is the `k`-th clipped coordinate. -/
theorem v26 (x1 : Boxes) (n : Nat) (hn : n < 5000) (k : Nat) (hk : k < 5) :
    val_main_v26 (F := Ideal) x1 (ix2 ⟨n, hn⟩ ⟨k, hk⟩) =
      (![val_main_v2 (F := Ideal) x1, val_main_v5 (F := Ideal) x1, val_main_v8 (F := Ideal) x1, val_main_v17 (F := Ideal) x1,
        val_main_v20 (F := Ideal) x1] : Fin 5 → (⟨S5000, .f32⟩ : BufTy).Contents (Elt Ideal)) ⟨k, hk⟩ (ix1 ⟨n, hn⟩) := by
  have key : val_main_v26 (F := Ideal) x1 (ix2 ⟨n, hn⟩ ⟨k, hk⟩) =
      (![val_main_v21 (F := Ideal) x1, val_main_v22 (F := Ideal) x1, val_main_v23 (F := Ideal) x1, val_main_v24 (F := Ideal) x1,
        val_main_v25 (F := Ideal) x1] : Fin 5 → (⟨S5000x1, .f32⟩ : BufTy).Contents (Elt Ideal)) ⟨k, hk⟩ (ix2 ⟨n, hn⟩ 0) := by
    unfold val_main_v26
    refine concatenate_apply_piece (t := S5000x5) 1 _ _ (ix2 ⟨n, hn⟩ ⟨k, hk⟩) k ?_ S5000x1 _ ?_ rfl k ?_ (ix2 ⟨n, hn⟩ 0) ?_ ?_
    · exact hk
    · match k, hk with
      | 0, _ => rfl
      | 1, _ => rfl
      | 2, _ => rfl
      | 3, _ => rfl
      | 4, _ => rfl
    · match k, hk with
      | 0, _ => rfl
      | 1, _ => rfl
      | 2, _ => rfl
      | 3, _ => rfl
      | 4, _ => rfl
    · intro b hb
      match b, hb with
      | ⟨0, _⟩, _ => rfl
      | ⟨1, _⟩, hb => exact absurd rfl hb
    · rfl
  rw [key]
  match k, hk with
  | 0, _ => exact val_main_v21_apply x1 _
  | 1, _ => exact val_main_v22_apply x1 _
  | 2, _ => exact val_main_v23_apply x1 _
  | 3, _ => exact val_main_v24_apply x1 _
  | 4, _ => exact val_main_v25_apply x1 _

/-- Row `n / 1` is row `n`. -/
theorem row_div_one (i : S5000.Idx) (hn : (i 0).val / 1 < 5000) : (ix1 (⟨(i 0).val / 1, hn⟩ : Fin 5000) : S5000.Idx) = i := by
  funext a; match a with | ⟨0, _⟩ => exact Fin.ext (Nat.div_one _)

/-- The batch number read back from the five columns … -/
theorem v28 (h : Below x1) (i : S5000.Idx) : val_main_v28 (F := Ideal) x1 i = (corner (x1 (ix2 (i 0) 0)) : EReal) := by
  rw [val_main_v28_apply, val_main_v27_apply]
  refine (v26 x1 _ (Nat.lt_of_le_of_lt (Nat.div_le_self _ 1) (i 0).isLt) 0 (by decide)).trans ?_
  rw [row_div_one]; exact v2 h i
/-- … the left edge … -/
theorem v31 (h : Below x1) (i : S5000.Idx) : val_main_v31 (F := Ideal) x1 i = (corner (x1 (ix2 (i 0) 1)) : EReal) := by
  rw [val_main_v31_apply, val_main_v30_apply]
  refine (v26 x1 _ (Nat.lt_of_le_of_lt (Nat.div_le_self _ 1) (i 0).isLt) 1 (by decide)).trans ?_
  rw [row_div_one]; exact v5 h i
/-- … the top edge … -/
theorem v35 (h : Below x1) (i : S5000.Idx) : val_main_v35 (F := Ideal) x1 i = (corner (x1 (ix2 (i 0) 2)) : EReal) := by
  rw [val_main_v35_apply, val_main_v34_apply]
  refine (v26 x1 _ (Nat.lt_of_le_of_lt (Nat.div_le_self _ 1) (i 0).isLt) 2 (by decide)).trans ?_
  rw [row_div_one]; exact v8 h i
/-- … the right edge … -/
theorem v39 (h : Below x1) (i : S5000.Idx) : val_main_v39 (F := Ideal) x1 i = ((corner (x1 (ix2 (i 0) 1)) + 1 : ℝ) : EReal) := by
  rw [val_main_v39_apply, val_main_v38_apply]
  refine (v26 x1 _ (Nat.lt_of_le_of_lt (Nat.div_le_self _ 1) (i 0).isLt) 3 (by decide)).trans ?_
  rw [row_div_one]; exact v17 h i
/-- … and the bottom edge. -/
theorem v43 (h : Below x1) (i : S5000.Idx) : val_main_v43 (F := Ideal) x1 i = ((corner (x1 (ix2 (i 0) 2)) + 1 : ℝ) : EReal) := by
  rw [val_main_v43_apply, val_main_v42_apply]
  refine (v26 x1 _ (Nat.lt_of_le_of_lt (Nat.div_le_self _ 1) (i 0).isLt) 4 (by decide)).trans ?_
  rw [row_div_one]; exact v20 h i

/-- Every box reads image 0. -/
theorem v29 (h : Below x1) (i : S5000.Idx) : val_main_v29 (F := Ideal) x1 i = 0#32 := by
  rw [val_main_v29_apply, v28 h]
  exact fptosi_frac (corner_nonneg (h _)) (corner_lt_one (h _))

/-- The left edge times the spatial scale 1. -/
theorem v33 (h : Below x1) (i : S5000.Idx) : val_main_v33 (F := Ideal) x1 i = (corner (x1 (ix2 (i 0) 1)) : EReal) := by
  rw [val_main_v33_apply, val_main_v32_apply, val_main_cst_11_apply, v31 h, lit_one]
  show (_ : EReal) * _ = _
  rw [EReal.coe_one, mul_one]
/-- The top edge times the spatial scale 1. -/
theorem v37 (h : Below x1) (i : S5000.Idx) : val_main_v37 (F := Ideal) x1 i = (corner (x1 (ix2 (i 0) 2)) : EReal) := by
  rw [val_main_v37_apply, val_main_v36_apply, val_main_cst_12_apply, v35 h, lit_one]
  show (_ : EReal) * _ = _
  rw [EReal.coe_one, mul_one]

/-- The width of one of a box's seven columns. -/
theorem v53 (h : Below x1) (i : S5000.Idx) : val_main_v53 (F := Ideal) x1 i = ((1 / 7 : ℝ) : EReal) := by
  rw [val_main_v53_apply, val_main_v52_apply, val_main_cst_17_apply, val_main_v48_apply, val_main_v47_apply, val_main_cst_15_apply,
    val_main_v46_apply, val_main_v41_apply, val_main_v40_apply, val_main_cst_13_apply, v33 h, v39 h, lit_one, lit_seven]
  show Ideal.div (max ((_ : EReal) * _ - _) _) _ = _
  rw [EReal.coe_one, mul_one, ← EReal.coe_one, ← EReal.coe_sub, max_coe, Ideal.div_coe (by norm_num), ← EReal.coe_mul]
  congr 1
  rw [add_sub_cancel_left, max_self, one_mul]
/-- The height of one of a box's seven rows. -/
theorem v55 (h : Below x1) (i : S5000.Idx) : val_main_v55 (F := Ideal) x1 i = ((1 / 7 : ℝ) : EReal) := by
  rw [val_main_v55_apply, val_main_v54_apply, val_main_cst_18_apply, val_main_v51_apply, val_main_v50_apply, val_main_cst_16_apply,
    val_main_v49_apply, val_main_v45_apply, val_main_v44_apply, val_main_cst_14_apply, v37 h, v43 h, lit_one, lit_seven]
  show Ideal.div (max ((_ : EReal) * _ - _) _) _ = _
  rw [EReal.coe_one, mul_one, ← EReal.coe_one, ← EReal.coe_sub, max_coe, Ideal.div_coe (by norm_num), ← EReal.coe_mul]
  congr 1
  rw [add_sub_cancel_left, max_self, one_mul]

/-- Counting 0 … 6 as floats. -/
theorem count (i : S7.Idx) : (sitofp .f32 (iotaInDim S7 32 0) : FVec Ideal S7 .f32) i = (((i 0).val : ℝ) : EReal) := by
  show (((BitVec.ofNat 32 (i 0).val).toInt : ℝ) : EReal) = _
  have hlt : (i 0).val < 7 := (i 0).isLt
  rw [show (BitVec.ofNat 32 (i 0).val).toInt = ((i 0).val : ℤ) from by
    rw [BitVec.toInt_eq_toNat_of_lt (by rw [BitVec.toNat_ofNat]; omega), BitVec.toNat_ofNat, Nat.mod_eq_of_lt (by omega)]]
  push_cast; rfl

/-- Half a step past each count, for the columns … -/
theorem v59 (i : S7.Idx) : val_main_v59 (F := Ideal) i = (((i 0).val + 1 / 2 : ℝ) : EReal) := by
  rw [val_main_v59_apply, val_main_v58_apply, val_main_cst_19_apply, lit_half]
  show val_main_v57 (F := Ideal) i + (_ : EReal) = _
  rw [show val_main_v57 (F := Ideal) i = _ from count i, ← EReal.coe_add]
/-- … and for the rows. -/
theorem v70 (i : S7.Idx) : val_main_v70 (F := Ideal) i = (((i 0).val + 1 / 2 : ℝ) : EReal) := by
  rw [val_main_v70_apply, val_main_v69_apply, val_main_cst_20_apply, lit_half]
  show val_main_v68 (F := Ideal) i + (_ : EReal) = _
  rw [show val_main_v68 (F := Ideal) i = _ from count i, ← EReal.coe_add]

/-- The horizontal sample points of a box. -/
theorem v66 (h : Below x1) (i : S5000x7.Idx) :
    val_main_v66 (F := Ideal) x1 i = (sampleAt (corner (x1 (ix2 (i 0) 1))) (i 1).val : EReal) := by
  rw [val_main_v66_apply, val_main_v65_apply, val_main_v64_apply, val_main_v62_apply, val_main_v61_apply, val_main_v63_apply,
    val_main_v60_apply, val_main_v56_apply, v33 h, v53 h, v59]
  show (_ : EReal) + _ * _ = _
  rw [← EReal.coe_mul, ← EReal.coe_add]; rfl
/-- The vertical sample points of a box. -/
theorem v77 (h : Below x1) (i : S5000x7.Idx) :
    val_main_v77 (F := Ideal) x1 i = (sampleAt (corner (x1 (ix2 (i 0) 2))) (i 1).val : EReal) := by
  rw [val_main_v77_apply, val_main_v76_apply, val_main_v75_apply, val_main_v73_apply, val_main_v72_apply, val_main_v74_apply,
    val_main_v71_apply, val_main_v67_apply, v37 h, v55 h, v70]
  show (_ : EReal) + _ * _ = _
  rw [← EReal.coe_mul, ← EReal.coe_add]; rfl

/-- The vertical coordinate of sample `i` of box `n`: row `i 1`. -/
def yAt (x1 : Boxes) (i : S5000x7x7.Idx) : ℝ := sampleAt (corner (x1 (ix2 (i 0) 2))) (i 1).val
/-- The horizontal coordinate of sample `i` of box `n`: column `i 2`. -/
def xAt (x1 : Boxes) (i : S5000x7x7.Idx) : ℝ := sampleAt (corner (x1 (ix2 (i 0) 1))) (i 2).val

/-- The array of vertical coordinates. -/
theorem v79 (h : Below x1) (i : S5000x7x7.Idx) : val_main_v79 (F := Ideal) x1 i = (yAt x1 i : EReal) := by
  rw [val_main_v79_apply, val_main_v78_apply, v77 h]; rfl
/-- The array of horizontal coordinates. -/
theorem v81 (h : Below x1) (i : S5000x7x7.Idx) : val_main_v81 (F := Ideal) x1 i = (xAt x1 i : EReal) := by
  rw [val_main_v81_apply, val_main_v80_apply, v66 h]; rfl

/-- The vertical coordinate of a sample is positive … -/
theorem yAt_pos (h : Below x1) (i : S5000x7x7.Idx) : 0 < yAt x1 i := sampleAt_pos (corner_nonneg (h _)) _
/-- … and below 2. -/
theorem yAt_lt (h : Below x1) (i : S5000x7x7.Idx) : yAt x1 i < 2 := sampleAt_lt (corner_lt_one (h _)) (i 1).isLt
/-- The horizontal coordinate of a sample is positive … -/
theorem xAt_pos (h : Below x1) (i : S5000x7x7.Idx) : 0 < xAt x1 i := sampleAt_pos (corner_nonneg (h _)) _
/-- … and below 2. -/
theorem xAt_lt (h : Below x1) (i : S5000x7x7.Idx) : xAt x1 i < 2 := sampleAt_lt (corner_lt_one (h _)) (i 2).isLt

end Cert.RoiAlign.Ref
-- ==== Proof.RefPixels.lean ====
/-  The reference, second half: the four pixels around a sample, their weights, and the result. -/
module

public import proofs.«01_k».proof.Proof.RefSample

@[expose] public section

set_option maxRecDepth 16384

noncomputable section

namespace Cert.RoiAlign.Ref

open Idealize.ShloMosaic hiding ix0 ix1 ix2 ix3 ix4 ix5
open Idealize.ShloMosaic.ValueIdx Cert.ReferenceIdeal Cert.ReferenceIdeal.Gen Cert.ReferenceIdeal.Read

variable {x1 : Boxes}

/-! ## The pixel numbers -/

/-- A pixel number is not past the last pixel … -/
theorem not_past {n : Nat} (hn : n ≤ 2) : IntOp.cmpi .sge (BitVec.ofNat 32 n) 255#32 = 0#1 := by
  interval_cases n <;> rfl
/-- … nor negative. -/
theorem not_neg {n : Nat} (hn : n ≤ 2) : IntOp.cmpi .slt (BitVec.ofNat 32 n) 0#32 = 0#1 := by
  interval_cases n <;> rfl
/-- So wrapping a negative pixel number changes nothing. -/
theorem wrap {n : Nat} (hn : n ≤ 2) (w : BitVec 32) :
    Scalar.select (IntOp.cmpi .slt (BitVec.ofNat 32 n) 0#32) w (BitVec.ofNat 32 n) = BitVec.ofNat 32 n := by
  rw [not_neg hn, select_zero]
/-- A pixel number as a float. -/
theorem pixel_float {n : Nat} (hn : n ≤ 2) : FloatOps.sitofp (F := Ideal) .f32 (BitVec.ofNat 32 n) = ((n : ℝ) : EReal) := by
  show (((BitVec.ofNat 32 n).toInt : ℝ) : EReal) = _
  rw [show (BitVec.ofNat 32 n).toInt = (n : ℤ) from by interval_cases n <;> rfl]
  push_cast; rfl

/-- A pixel number is at most 2 … -/
theorem low_le_two (t : ℝ) : low t ≤ 2 := (low_le t).trans (by decide)
/-- … and so is the next one. -/
theorem low_succ_le_two (t : ℝ) : low t + 1 ≤ 2 := by have := low_le t; omega

/-- Cutting off a negative vertical coordinate changes nothing … -/
theorem v94 (h : Below x1) (i : S5000x7x7.Idx) : val_main_v94 (F := Ideal) x1 i = (yAt x1 i : EReal) := by
  rw [val_main_v94_apply, val_main_v93_apply, val_main_cst_25_apply, v79 h, lit_zero]
  show max (_ : EReal) _ = _
  rw [max_coe, max_eq_left (yAt_pos h i).le]
/-- … nor does it to a horizontal one. -/
theorem v96 (h : Below x1) (i : S5000x7x7.Idx) : val_main_v96 (F := Ideal) x1 i = (xAt x1 i : EReal) := by
  rw [val_main_v96_apply, val_main_v95_apply, val_main_cst_26_apply, v81 h, lit_zero]
  show max (_ : EReal) _ = _
  rw [max_coe, max_eq_left (xAt_pos h i).le]
/-- The pixel row of a sample, before the test for the last row. -/
theorem v98 (h : Below x1) (i : S5000x7x7.Idx) : val_main_v98 (F := Ideal) x1 i = BitVec.ofNat 32 (low (yAt x1 i)) := by
  rw [val_main_v98_apply, val_main_v97_apply, v94 h]
  exact pixel_word (yAt_pos h i).le (yAt_lt h i)
/-- The pixel column of a sample, before the test for the last column. -/
theorem v100 (h : Below x1) (i : S5000x7x7.Idx) : val_main_v100 (F := Ideal) x1 i = BitVec.ofNat 32 (low (xAt x1 i)) := by
  rw [val_main_v100_apply, val_main_v99_apply, v96 h]
  exact pixel_word (xAt_pos h i).le (xAt_lt h i)
/-- No sample is in the last row … -/
theorem v102 (h : Below x1) (i : S5000x7x7.Idx) : val_main_v102 (F := Ideal) x1 i = 0#1 := by
  rw [val_main_v102_apply, val_main_v101_apply, val_main_c_apply, v98 h, not_past (low_le_two _)]
/-- … or in the last column. -/
theorem v110 (h : Below x1) (i : S5000x7x7.Idx) : val_main_v110 (F := Ideal) x1 i = 0#1 := by
  rw [val_main_v110_apply, val_main_v109_apply, val_main_c_30_apply, v100 h, not_past (low_le_two _)]
/-- The upper pixel row of a sample … -/
theorem v103 (h : Below x1) (i : S5000x7x7.Idx) : val_main_v103 (F := Ideal) x1 i = BitVec.ofNat 32 (low (yAt x1 i)) := by
  rw [val_main_v103_apply, v102 h, v98 h, select_zero]
/-- … and the lower one. -/
theorem v106 (h : Below x1) (i : S5000x7x7.Idx) : val_main_v106 (F := Ideal) x1 i = BitVec.ofNat 32 (low (yAt x1 i) + 1) := by
  rw [val_main_v106_apply, v102 h, select_zero, val_main_v105_apply, v103 h, val_main_v104_apply, val_main_c_28_apply]
  exact (BitVec.ofNat_add _ _).symm
/-- The left pixel column of a sample … -/
theorem v111 (h : Below x1) (i : S5000x7x7.Idx) : val_main_v111 (F := Ideal) x1 i = BitVec.ofNat 32 (low (xAt x1 i)) := by
  rw [val_main_v111_apply, v110 h, v100 h, select_zero]
/-- … and the right one. -/
theorem v114 (h : Below x1) (i : S5000x7x7.Idx) : val_main_v114 (F := Ideal) x1 i = BitVec.ofNat 32 (low (xAt x1 i) + 1) := by
  rw [val_main_v114_apply, v110 h, select_zero, val_main_v113_apply, v111 h, val_main_v112_apply, val_main_c_32_apply]
  exact (BitVec.ofNat_add _ _).symm

/-! ## The weights -/

/-- How far a sample lies below its upper pixel row. -/
def ly (x1 : Boxes) (i : S5000x7x7.Idx) : ℝ := yAt x1 i - low (yAt x1 i)
/-- How far a sample lies right of its left pixel column. -/
def lx (x1 : Boxes) (i : S5000x7x7.Idx) : ℝ := xAt x1 i - low (xAt x1 i)

/-- The reference's weights downwards are `ly` … -/
theorem v118 (h : Below x1) (i : S5000x7x7.Idx) : val_main_v118 (F := Ideal) x1 i = (ly x1 i : EReal) := by
  rw [val_main_v118_apply, val_main_v108_apply, v102 h, select_zero, v94 h, val_main_v117_apply, v103 h, pixel_float (low_le_two _)]
  exact (EReal.coe_sub _ _).symm
/-- … those to the right `lx` … -/
theorem v120 (h : Below x1) (i : S5000x7x7.Idx) : val_main_v120 (F := Ideal) x1 i = (lx x1 i : EReal) := by
  rw [val_main_v120_apply, val_main_v116_apply, v110 h, select_zero, v96 h, val_main_v119_apply, v111 h, pixel_float (low_le_two _)]
  exact (EReal.coe_sub _ _).symm
/-- … those upwards 1 less `ly` … -/
theorem v122 (h : Below x1) (i : S5000x7x7.Idx) : val_main_v122 (F := Ideal) x1 i = ((1 - ly x1 i : ℝ) : EReal) := by
  rw [val_main_v122_apply, val_main_v121_apply, val_main_cst_34_apply, v118 h, lit_one]
  exact (EReal.coe_sub _ _).symm
/-- … and those to the left 1 less `lx`. -/
theorem v124 (h : Below x1) (i : S5000x7x7.Idx) : val_main_v124 (F := Ideal) x1 i = ((1 - lx x1 i : ℝ) : EReal) := by
  rw [val_main_v124_apply, val_main_v123_apply, val_main_cst_35_apply, v120 h, lit_one]
  exact (EReal.coe_sub _ _).symm
/-- Weight of the upper left pixel, … -/
theorem v210 (h : Below x1) (i : S5000x7x7.Idx) : val_main_v210 (F := Ideal) x1 i = (((1 - ly x1 i) * (1 - lx x1 i) : ℝ) : EReal) := by
  rw [val_main_v210_apply, v122 h, v124 h]; exact (EReal.coe_mul _ _).symm
/-- … the upper right, … -/
theorem v212 (h : Below x1) (i : S5000x7x7.Idx) : val_main_v212 (F := Ideal) x1 i = (((1 - ly x1 i) * lx x1 i : ℝ) : EReal) := by
  rw [val_main_v212_apply, v122 h, v120 h]; exact (EReal.coe_mul _ _).symm
/-- … the lower left … -/
theorem v214 (h : Below x1) (i : S5000x7x7.Idx) : val_main_v214 (F := Ideal) x1 i = ((ly x1 i * (1 - lx x1 i) : ℝ) : EReal) := by
  rw [val_main_v214_apply, v118 h, v124 h]; exact (EReal.coe_mul _ _).symm
/-- … and the lower right. -/
theorem v216 (h : Below x1) (i : S5000x7x7.Idx) : val_main_v216 (F := Ideal) x1 i = ((ly x1 i * lx x1 i : ℝ) : EReal) := by
  rw [val_main_v216_apply, v118 h, v120 h]; exact (EReal.coe_mul _ _).symm

/-! ## The pixels -/

/-- Three one-wide integer arrays side by side, read at component `k`. -/
theorem side_by_side (a b c : IVec S5000x7x7x1 32)
    (h : Shape.Concatenates (([⟨S5000x7x7x1, a⟩, ⟨S5000x7x7x1, b⟩, ⟨S5000x7x7x1, c⟩] : List ((s : Shape) × (s.Idx → BitVec 32))).map (·.1)) S5000x7x7x3 3)
    (n : Fin 5000) (p q : Fin 7) (k : Nat) (hk : k < 3) :
    concatenate S5000x7x7x3 3 [⟨S5000x7x7x1, a⟩, ⟨S5000x7x7x1, b⟩, ⟨S5000x7x7x1, c⟩] h (ix4 n p q ⟨k, hk⟩) =
      (![a, b, c] : Fin 3 → IVec S5000x7x7x1 32) ⟨k, hk⟩ (ix4 n p q 0) := by
  refine concatenate_apply_piece (t := S5000x7x7x3) 3 _ _ (ix4 n p q ⟨k, hk⟩) k ?_ S5000x7x7x1 _ ?_ rfl k ?_ (ix4 n p q 0) ?_ ?_
  · exact hk
  · match k, hk with
    | 0, _ => rfl
    | 1, _ => rfl
    | 2, _ => rfl
  · match k, hk with
    | 0, _ => rfl
    | 1, _ => rfl
    | 2, _ => rfl
  · intro e he
    match e, he with
    | ⟨0, _⟩, _ => rfl
    | ⟨1, _⟩, _ => rfl
    | ⟨2, _⟩, _ => rfl
    | ⟨3, _⟩, he => exact absurd rfl he
  · rfl

/-- The four-axis lookup the reference makes: a pixel of every channel. -/
abbrev look : GatherDims S4x128x256x256 S5000x7x7x3 S5000x7x7x128 :=
  gather_S4x128x256x256_S5000x7x7x3_S5000x7x7x128_3_023_n_n_023_3_112811

/-- The lookup read at one element: image `a`, the element's channel, row `r`, column `q`. -/
theorem look_apply (x0 : FVec Ideal S4x128x256x256 .f32) (ix : IVec S5000x7x7x3 32) (y : S5000x7x7x128.Idx)
    {a r q : Nat} (ha : a < 4) (hr : r < 256) (hq : q < 256)
    (h0 : ix (ix4 (y 0) (y 1) (y 2) 0) = BitVec.ofNat 32 a)
    (h1 : ix (ix4 (y 0) (y 1) (y 2) 1) = BitVec.ofNat 32 r)
    (h2 : ix (ix4 (y 0) (y 1) (y 2) 2) = BitVec.ofNat 32 q) :
    Host.gather look x0 ix y = x0 (ix4 ⟨a, ha⟩ (y 3) ⟨r, hr⟩ ⟨q, hq⟩) := by
  have nat (m : Nat) (hm : m < 256) : (BitVec.ofNat 32 m).toInt.toNat = m := by
    rw [show (BitVec.ofNat 32 m).toInt = (m : ℤ) from by
      rw [BitVec.toInt_eq_toNat_of_lt (by rw [BitVec.toNat_ofNat]; omega), BitVec.toNat_ofNat, Nat.mod_eq_of_lt (by omega)]]
    rfl
  have k0 : (0 : Fin 4) ∈ look.startIndexMap := by decide
  have k1 : ¬ (1 : Fin 4) ∈ look.startIndexMap := by decide
  have k2 : (2 : Fin 4) ∈ look.startIndexMap := by decide
  have k3 : (3 : Fin 4) ∈ look.startIndexMap := by decide
  have o0 : look.offCoord y (0 : Fin 4) = 0 := rfl
  have o1 : look.offCoord y (1 : Fin 4) = (y 3).val := rfl
  have o2 : look.offCoord y (2 : Fin 4) = 0 := rfl
  have o3 : look.offCoord y (3 : Fin 4) = 0 := rfl
  have e0 : look.start y ix (0 : Fin 4) = a := by
    unfold GatherDims.start
    rw [dif_pos k0]
    show min (ix _).toInt.toNat (4 - 1) = a
    rw [show ix (look.siIdx y ⟨List.idxOf (0 : Fin 4) look.startIndexMap, _⟩) = BitVec.ofNat 32 a from
      (congrArg ix (funext fun b => Fin.ext (by
        match b with | ⟨0, _⟩ => rfl | ⟨1, _⟩ => rfl | ⟨2, _⟩ => rfl | ⟨3, _⟩ => rfl))).trans h0, nat a (by omega)]
    omega
  have e2 : look.start y ix (2 : Fin 4) = r := by
    unfold GatherDims.start
    rw [dif_pos k2]
    show min (ix _).toInt.toNat (256 - 1) = r
    rw [show ix (look.siIdx y ⟨List.idxOf (2 : Fin 4) look.startIndexMap, _⟩) = BitVec.ofNat 32 r from
      (congrArg ix (funext fun b => Fin.ext (by
        match b with | ⟨0, _⟩ => rfl | ⟨1, _⟩ => rfl | ⟨2, _⟩ => rfl | ⟨3, _⟩ => rfl))).trans h1, nat r hr]
    omega
  have e3 : look.start y ix (3 : Fin 4) = q := by
    unfold GatherDims.start
    rw [dif_pos k3]
    show min (ix _).toInt.toNat (256 - 1) = q
    rw [show ix (look.siIdx y ⟨List.idxOf (3 : Fin 4) look.startIndexMap, _⟩) = BitVec.ofNat 32 q from
      (congrArg ix (funext fun b => Fin.ext (by
        match b with | ⟨0, _⟩ => rfl | ⟨1, _⟩ => rfl | ⟨2, _⟩ => rfl | ⟨3, _⟩ => rfl))).trans h2, nat q hq]
    omega
  have e1 : look.start y ix (1 : Fin 4) = 0 := by
    unfold GatherDims.start
    rw [dif_neg k1]
  unfold Host.gather
  refine congrArg x0 (funext fun e => Fin.ext ?_)
  show look.start y ix e + look.batchCoord y e + look.offCoord y e = _
  rw [GatherDims.batchCoord_eq_zero _ _ _ List.not_mem_nil, Nat.add_zero]
  match e with
  | ⟨0, _⟩ => exact (congrArg₂ (· + ·) e0 o0).trans (Nat.add_zero _)
  | ⟨1, _⟩ => exact (congrArg₂ (· + ·) e1 o1).trans (Nat.zero_add _)
  | ⟨2, _⟩ => exact (congrArg₂ (· + ·) e2 o2).trans (Nat.add_zero _)
  | ⟨3, _⟩ => exact (congrArg₂ (· + ·) e3 o3).trans (Nat.add_zero _)

/-- The lookup at three index arrays side by side, the first of them zero: the pixel of image 0. -/
theorem pixel (x0 : FVec Ideal S4x128x256x256 .f32) (a b c : IVec S5000x7x7x1 32)
    (h : Shape.Concatenates (([⟨S5000x7x7x1, a⟩, ⟨S5000x7x7x1, b⟩, ⟨S5000x7x7x1, c⟩] : List ((s : Shape) × (s.Idx → BitVec 32))).map (·.1)) S5000x7x7x3 3)
    (y : S5000x7x7x128.Idx) {r q : Nat} (hr : r < 256) (hq : q < 256)
    (h0 : a (ix4 (y 0) (y 1) (y 2) 0) = 0#32)
    (h1 : b (ix4 (y 0) (y 1) (y 2) 0) = BitVec.ofNat 32 r)
    (h2 : c (ix4 (y 0) (y 1) (y 2) 0) = BitVec.ofNat 32 q) :
    Host.gather look x0 (concatenate S5000x7x7x3 3 [⟨S5000x7x7x1, a⟩, ⟨S5000x7x7x1, b⟩, ⟨S5000x7x7x1, c⟩] h) y =
      x0 (ix4 0 (y 3) ⟨r, hr⟩ ⟨q, hq⟩) := by
  have l0 : 0 < 3 := by decide
  have l1 : 1 < 3 := by decide
  have l2 : 2 < 3 := by decide
  exact look_apply x0 _ y (a := 0) (by decide) hr hq
    ((side_by_side a b c h (y 0) (y 1) (y 2) 0 l0).trans h0)
    ((side_by_side a b c h (y 0) (y 1) (y 2) 1 l1).trans h1)
    ((side_by_side a b c h (y 0) (y 1) (y 2) 2 l2).trans h2)

/-- The sample a result element belongs to. -/
abbrev at3 (y : S5000x7x7x128.Idx) : S5000x7x7.Idx := ix3 (y 0) (y 1) (y 2)

/-- A pixel number lies in the image … -/
theorem low_lt (t : ℝ) : low t < 256 := by have := low_le t; omega
/-- … and so does the next one. -/
theorem low_succ_lt (t : ℝ) : low t + 1 < 256 := by have := low_le t; omega

/-- The image number the lookups use: 0. -/
theorem wrap_zero (w : BitVec 32) : Scalar.select (IntOp.cmpi .slt 0#32 0#32) w 0#32 = 0#32 := rfl

/-- The corner patch of image 0 as real numbers: rows, columns and channels. -/
def patch (x0 : FVec Ideal S4x128x256x256 .f32) (k : Fin 128) (r q : Nat) : ℝ :=
  if hr : r < 256 then if hq : q < 256 then (x0 (ix4 0 k ⟨r, hr⟩ ⟨q, hq⟩) : EReal).toReal else 0 else 0

/-- The three by three corner patch of image 0 holds real numbers. -/
abbrev Finite (x0 : FVec Ideal S4x128x256x256 .f32) : Prop :=
  ∀ (k : Fin 128) (r q : Nat) (hr : r < 256) (hq : q < 256), r ≤ 2 → q ≤ 2 →
    (x0 (ix4 0 k ⟨r, hr⟩ ⟨q, hq⟩) : EReal) = (patch x0 k r q : EReal)

/-- The upper left pixel of a sample. -/
theorem v146 (h : Below x1) (x0 : FVec Ideal S4x128x256x256 .f32) (hf : Finite x0) (y : S5000x7x7x128.Idx) :
    val_main_v146 (F := Ideal) x0 x1 y = (patch x0 (y 3) (low (yAt x1 (at3 y))) (low (xAt x1 (at3 y))) : EReal) := by
  refine (pixel x0 _ _ _ _ y (low_lt _) (low_lt _) ?_ ?_ ?_).trans (hf _ _ _ _ _ (low_le_two _) (low_le_two _))
  · rw [val_main_v142_apply, val_main_v141_apply, val_main_v130_apply, val_main_v127_apply, val_main_v126_apply, val_main_c_36_apply,
      val_main_v125_apply, v29 h, wrap_zero]
  · rw [val_main_v143_apply, val_main_v135_apply, val_main_v132_apply, val_main_v131_apply, val_main_c_38_apply, v103 h, wrap (low_le_two _)]; rfl
  · rw [val_main_v144_apply, val_main_v140_apply, val_main_v137_apply, val_main_v136_apply, val_main_c_40_apply, v111 h, wrap (low_le_two _)]; rfl

/-- The upper right pixel of a sample. -/
theorem v167 (h : Below x1) (x0 : FVec Ideal S4x128x256x256 .f32) (hf : Finite x0) (y : S5000x7x7x128.Idx) :
    val_main_v167 (F := Ideal) x0 x1 y = (patch x0 (y 3) (low (yAt x1 (at3 y))) (low (xAt x1 (at3 y)) + 1) : EReal) := by
  refine (pixel x0 _ _ _ _ y (low_lt _) (low_succ_lt _) ?_ ?_ ?_).trans (hf _ _ _ _ _ (low_le_two _) (low_succ_le_two _))
  · rw [val_main_v163_apply, val_main_v162_apply, val_main_v151_apply, val_main_v148_apply, val_main_v147_apply, val_main_c_42_apply,
      val_main_v125_apply, v29 h, wrap_zero]
  · rw [val_main_v164_apply, val_main_v156_apply, val_main_v153_apply, val_main_v152_apply, val_main_c_44_apply, v103 h, wrap (low_le_two _)]; rfl
  · rw [val_main_v165_apply, val_main_v161_apply, val_main_v158_apply, val_main_v157_apply, val_main_c_46_apply, v114 h, wrap (low_succ_le_two _)]; rfl

/-- The lower left pixel of a sample. -/
theorem v188 (h : Below x1) (x0 : FVec Ideal S4x128x256x256 .f32) (hf : Finite x0) (y : S5000x7x7x128.Idx) :
    val_main_v188 (F := Ideal) x0 x1 y = (patch x0 (y 3) (low (yAt x1 (at3 y)) + 1) (low (xAt x1 (at3 y))) : EReal) := by
  refine (pixel x0 _ _ _ _ y (low_succ_lt _) (low_lt _) ?_ ?_ ?_).trans (hf _ _ _ _ _ (low_succ_le_two _) (low_le_two _))
  · rw [val_main_v184_apply, val_main_v183_apply, val_main_v172_apply, val_main_v169_apply, val_main_v168_apply, val_main_c_48_apply,
      val_main_v125_apply, v29 h, wrap_zero]
  · rw [val_main_v185_apply, val_main_v177_apply, val_main_v174_apply, val_main_v173_apply, val_main_c_50_apply, v106 h, wrap (low_succ_le_two _)]; rfl
  · rw [val_main_v186_apply, val_main_v182_apply, val_main_v179_apply, val_main_v178_apply, val_main_c_52_apply, v111 h, wrap (low_le_two _)]; rfl

/-- The lower right pixel of a sample. -/
theorem v209 (h : Below x1) (x0 : FVec Ideal S4x128x256x256 .f32) (hf : Finite x0) (y : S5000x7x7x128.Idx) :
    val_main_v209 (F := Ideal) x0 x1 y = (patch x0 (y 3) (low (yAt x1 (at3 y)) + 1) (low (xAt x1 (at3 y)) + 1) : EReal) := by
  refine (pixel x0 _ _ _ _ y (low_succ_lt _) (low_succ_lt _) ?_ ?_ ?_).trans (hf _ _ _ _ _ (low_succ_le_two _) (low_succ_le_two _))
  · rw [val_main_v205_apply, val_main_v204_apply, val_main_v193_apply, val_main_v190_apply, val_main_v189_apply, val_main_c_54_apply,
      val_main_v125_apply, v29 h, wrap_zero]
  · rw [val_main_v206_apply, val_main_v198_apply, val_main_v195_apply, val_main_v194_apply, val_main_c_56_apply, v106 h, wrap (low_succ_le_two _)]; rfl
  · rw [val_main_v207_apply, val_main_v203_apply, val_main_v200_apply, val_main_v199_apply, val_main_c_58_apply, v114 h, wrap (low_succ_le_two _)]; rfl

/-! ## The result -/

/-- Every sample lies in the image as far as the reference's test goes. -/
theorem v92 (h : Below x1) (i : S5000x7x7.Idx) : val_main_v92 (F := Ideal) x1 i = 1#1 := by
  have ge (t : ℝ) (ht : 0 < t) : FloatOps.cmpf (F := Ideal) (φ := .f32) .oge (t : EReal) ((-1 : ℝ) : EReal) = 1#1 := by
    show BitVec.ofBool (decide (((-1 : ℝ) : EReal) ≤ (t : EReal))) = _
    rw [decide_eq_true (by exact_mod_cast (by linarith : (-1 : ℝ) ≤ t))]; rfl
  have le (t : ℝ) (ht : t < 2) : FloatOps.cmpf (F := Ideal) (φ := .f32) .ole (t : EReal) ((256 : ℝ) : EReal) = 1#1 := by
    show BitVec.ofBool (decide ((t : EReal) ≤ ((256 : ℝ) : EReal))) = _
    rw [decide_eq_true (by exact_mod_cast (by linarith : t ≤ (256 : ℝ)))]; rfl
  rw [val_main_v92_apply, val_main_v89_apply, val_main_v86_apply, val_main_v83_apply, val_main_v82_apply, val_main_cst_21_apply,
    val_main_v85_apply, val_main_v84_apply, val_main_cst_22_apply, val_main_v88_apply, val_main_v87_apply, val_main_cst_23_apply,
    val_main_v91_apply, val_main_v90_apply, val_main_cst_24_apply, v79 h, v81 h, lit_neg_one, lit_256, ge _ (yAt_pos h i),
    le _ (yAt_lt h i), ge _ (xAt_pos h i), le _ (xAt_lt h i)]
  rfl

/-- The weighted sum of four pixel values that a sample stands for. -/
def blend (Y X : ℝ) (p : Nat → Nat → ℝ) : ℝ :=
  (1 - (Y - low Y)) * (1 - (X - low X)) * p (low Y) (low X) + (1 - (Y - low Y)) * (X - low X) * p (low Y) (low X + 1) +
    (Y - low Y) * (1 - (X - low X)) * p (low Y + 1) (low X) + (Y - low Y) * (X - low X) * p (low Y + 1) (low X + 1)

/-- The reference's result: the blend of the four pixels around the sample. -/
theorem result (h : Below x1) (x0 : FVec Ideal S4x128x256x256 .f32) (hf : Finite x0) (i : S5000x128x7x7.Idx) :
    val_main_v231 (F := Ideal) x0 x1 i =
      (blend (sampleAt (corner (x1 (ix2 (i 0) 2))) (i 2).val) (sampleAt (corner (x1 (ix2 (i 0) 1))) (i 3).val) (patch x0 (i 1)) : EReal) := by
  rw [val_main_v231_apply, val_main_v230_apply, val_main_call11_v1_apply, val_main_v229_apply, v92 h, select_one,
    val_main_v228_apply, val_main_v227_apply, val_main_v226_apply, val_main_v217_apply, v216 h, v209 h x0 hf,
    val_main_v225_apply, val_main_v224_apply, val_main_v223_apply, val_main_v215_apply, v214 h, v188 h x0 hf,
    val_main_v222_apply, val_main_v221_apply, val_main_v220_apply, val_main_v213_apply, v212 h, v167 h x0 hf,
    val_main_v219_apply, val_main_v218_apply, val_main_v211_apply, v210 h, v146 h x0 hf]
  show (_ : EReal) * _ + _ * _ + _ * _ + _ * _ = _
  rw [← EReal.coe_mul, ← EReal.coe_mul, ← EReal.coe_mul, ← EReal.coe_mul, ← EReal.coe_add, ← EReal.coe_add, ← EReal.coe_add]
  rfl

end Cert.RoiAlign.Ref
-- ==== Proof.Bilinear.lean ====
/-  The equation: what the kernel makes of its nine table entries is the reference's blend of four pixels. -/
module

public import proofs.«01_k».proof.Proof.TileValue
public import proofs.«01_k».proof.Proof.RefPixels

@[expose] public section

noncomputable section

namespace Cert.RoiAlign

open Idealize.ShloMosaic

/-- The nine table entries of a three by three patch: the middle row of pixels (the middle one, and the left and right
    ones' differences from it), then what the row above has over the middle row, then what the row below has. -/
def table (p : Nat → Nat → ℝ) : Fin 9 → ℝ :=
  ![p 1 1, p 1 0 - p 1 1, p 1 2 - p 1 1,
    p 0 1 - p 1 1, (p 0 0 - p 0 1) - (p 1 0 - p 1 1), (p 0 2 - p 0 1) - (p 1 2 - p 1 1),
    p 2 1 - p 1 1, (p 2 0 - p 2 1) - (p 1 0 - p 1 1), (p 2 2 - p 2 1) - (p 1 2 - p 1 1)]

/-- `alongE` over the reals. -/
def alongR (u p q r : ℝ) : ℝ := p + (max u 0 - u) * q + max u 0 * r

/-- On real numbers `alongE` is `alongR`. -/
theorem alongE_coe (u p q r : ℝ) : alongE (u : EReal) p q r = (alongR u p q r : EReal) := by
  unfold alongE alongR
  rw [← EReal.coe_zero, max_coe, ← EReal.coe_sub, ← EReal.coe_mul, ← EReal.coe_mul, ← EReal.coe_add, ← EReal.coe_add]

/-- A row read at the distance `u` from its middle pixel is the blend of two neighbours: the left and the middle one, or
    the middle and the right one. -/
theorem alongR_eq (u a b c : ℝ) : alongR u b (a - b) (c - b) = if u < 0 then -u * a + (1 + u) * b else (1 - u) * b + u * c := by
  unfold alongR
  split <;> rename_i h
  · rw [max_eq_right h.le]; ring
  · rw [max_eq_left (not_lt.mp h)]; ring

/-- Differences of rows are read as differences. -/
theorem alongR_sub (u p q r p' q' r' : ℝ) : alongR u (p - p') (q - q') (r - r') = alongR u p q r - alongR u p' q' r' := by
  unfold alongR; ring

/-- The kernel's value of a sample `u` to the right of the middle pixel and `v` below it is the reference's blend. -/
theorem pointE_table (u v : ℝ) (p : Nat → Nat → ℝ) :
    pointE (u : EReal) v (fun r => (table p r : EReal)) = (Ref.blend (v + 1) (u + 1) p : EReal) := by
  unfold pointE
  simp only [alongE_coe]
  have hm : alongR u (table p 0) (table p 1) (table p 2) = _ := alongR_eq u (p 1 0) (p 1 1) (p 1 2)
  have ha : alongR u (table p 3) (table p 4) (table p 5) = _ :=
    alongR_sub u (p 0 1) (p 0 0 - p 0 1) (p 0 2 - p 0 1) (p 1 1) (p 1 0 - p 1 1) (p 1 2 - p 1 1)
  have hb : alongR u (table p 6) (table p 7) (table p 8) = _ :=
    alongR_sub u (p 2 1) (p 2 0 - p 2 1) (p 2 2 - p 2 1) (p 1 1) (p 1 0 - p 1 1) (p 1 2 - p 1 1)
  rw [alongR_eq, alongR_eq] at ha hb
  rw [hm, ha, hb, ← EReal.coe_neg, max_coe]
  unfold Ref.blend low
  have hc : ((v : EReal) < 0) = (v < 0) := by rw [← EReal.coe_zero, EReal.coe_lt_coe_iff]
  simp only [hc]
  by_cases hu : u < 0 <;> by_cases hv : v < 0
  · simp only [if_pos hu, if_pos (show u + 1 < 1 by linarith),
      if_pos hv, if_pos (show v + 1 < 1 by linarith), max_eq_right (show v ≤ -v by linarith), ← EReal.coe_mul, ← EReal.coe_add]
    congr 1; push_cast; ring
  · simp only [if_pos hu, if_pos (show u + 1 < 1 by linarith),
      if_neg hv, if_neg (show ¬ v + 1 < 1 by linarith), max_eq_left (show -v ≤ v by linarith), ← EReal.coe_mul, ← EReal.coe_add]
    congr 1; push_cast; ring
  · simp only [if_neg hu, if_neg (show ¬ u + 1 < 1 by linarith),
      if_pos hv, if_pos (show v + 1 < 1 by linarith), max_eq_right (show v ≤ -v by linarith), ← EReal.coe_mul, ← EReal.coe_add]
    congr 1; push_cast; ring
  · simp only [if_neg hu, if_neg (show ¬ u + 1 < 1 by linarith),
      if_neg hv, if_neg (show ¬ v + 1 < 1 by linarith), max_eq_left (show -v ≤ v by linarith), ← EReal.coe_mul, ← EReal.coe_add]
    congr 1; push_cast; ring

/-- The centre of sample `n` of a unit box, measured from the middle pixel, which is 1 from the box's edge at 0. -/
def centreR (n : Nat) : ℝ := ((n : ℝ) + 1 / 2) * (1 / 7) - 1

/-- A sample's distance from the middle pixel: the clipped edge and the centre add up to the reference's sample point
    less 1. -/
theorem clipE_add {z : EReal} (h : z < 1) (n : Nat) : clipE z + (centreR n : EReal) = ((sampleAt (corner z) n - 1 : ℝ) : EReal) := by
  have e : clipE z = (corner z : EReal) := clip_zero h (b := 255) (by norm_num)
  rw [e, ← EReal.coe_add]
  congr 1
  unfold centreR sampleAt
  ring

/-- One sample of one box in one channel, from the box's two edges: the kernel's value is the reference's. -/
theorem sample_eq {x y : EReal} (hx : x < 1) (hy : y < 1) (i j : Nat) (p : Nat → Nat → ℝ) :
    pointE (clipE x + (centreR j : EReal)) (clipE y + (centreR i : EReal)) (fun r => (table p r : EReal)) =
      (Ref.blend (sampleAt (corner y) i) (sampleAt (corner x) j) p : EReal) := by
  rw [clipE_add hx, clipE_add hy, pointE_table, sub_add_cancel, sub_add_cancel]

end Cert.RoiAlign

end
-- ==== Proof.PatchValue.lean ====
/-  The two operands of the kernel's body, one number at a time. -/
module

public import proofs.«01_k».proof.Proof.Patch
public import proofs.«01_k».proof.Proof.Bilinear

@[expose] public section

set_option maxRecDepth 16384

noncomputable section

namespace Cert.KernelIdeal.Patch

open Cert.KernelIdeal Cert.KernelIdeal.Gen Cert.RoiAlign
open Idealize.ShloMosaic hiding ix0 ix1 ix2 ix3 ix4 ix5
open Idealize.ShloMosaic.ValueIdx

section Layout

variable {F : FTy → Type} [FloatOps F] [Named F]

/-- Lane `l` of a box's row is the box's column `l + 1`: its left edge, or its top edge. -/
theorem edges_apply (x1 : FVec F S5000x5 .f32) (n : Fin 5000) (l : Fin 2) :
    edges x1 (ix2 n ⟨l.val, by omega⟩) = x1 (ix2 n ⟨l.val + 1, by omega⟩) := by
  unfold edges
  refine (pad_apply_of_inside _ _ _ _ _ pads_S5000x2_S5000x128_000_01260 h_S_ _ (ix2 n l) fun a => ?_).trans ?_
  · match a with
    | ⟨0, _⟩ => show n.val = 0 + n.val * 1; omega
    | ⟨1, _⟩ => show l.val = 0 + l.val * 1; omega
  refine extractStridedSlice_apply _ x1 _ _ _ fun a => ?_
  match a with
  | ⟨0, _⟩ => exact (Nat.zero_add _).symm
  | ⟨1, _⟩ => exact Nat.add_comm _ _

/-- A pixel of the corner. -/
theorem pixels_apply (x0 : FVec F S4x128x256x256 .f32) (r q : Fin 3) (k : Fin 128) :
    pixels x0 (ix3 r q k) = x0 (ix4 0 k ⟨r.val, by omega⟩ ⟨q.val, by omega⟩) := by
  unfold pixels
  refine (transpose_apply _ _ _ _ (ix3 k r q) fun b => match b with
    | ⟨0, _⟩ => rfl | ⟨1, _⟩ => rfl | ⟨2, _⟩ => rfl).trans ?_
  refine (shapeCast_apply _ _ _ (ix4 0 k r q) ?_).trans ?_
  · rewrite [Shape.rowMajor_val_three, Shape.rowMajor_val_four]
    show ((0 * 128 + k.val) * 3 + r.val) * 3 + q.val = (k.val * 3 + r.val) * 3 + q.val
    omega
  refine extractStridedSlice_apply _ x0 _ _ _ fun a => ?_
  match a with
  | ⟨0, _⟩ => rfl
  | ⟨1, _⟩ => exact (Nat.zero_add _).symm
  | ⟨2, _⟩ => exact (Nat.zero_add _).symm
  | ⟨3, _⟩ => exact (Nat.zero_add _).symm

/-- A pixel of a column. -/
theorem column_apply (x0 : FVec F S4x128x256x256 .f32) (q r : Fin 3) (k : Fin 128) :
    column x0 q (ix2 r k) = x0 (ix4 0 k ⟨r.val, by omega⟩ ⟨q.val, by omega⟩) := by
  refine Eq.trans ?_ (pixels_apply x0 r q k)
  unfold column
  refine (shapeCast_apply _ _ _ (ix3 r 0 k) ?_).trans ?_
  · rewrite [Shape.rowMajor_val_two, Shape.rowMajor_val_three]
    show (r.val * 1 + 0) * 128 + k.val = r.val * 128 + k.val
    omega
  refine extractStridedSlice_apply _ _ _ _ _ fun a => ?_
  match a with
  | ⟨0, _⟩ => exact (Nat.zero_add _).symm
  | ⟨1, _⟩ => rfl
  | ⟨2, _⟩ => exact (Nat.zero_add _).symm

/-- A number of a row. -/
theorem line_apply (a : FVec F S3x128 .f32) (r : Fin 3) (k : Fin 128) : line a r (ix1 k) = a (ix2 r k) := by
  unfold line
  refine (shapeCast_apply _ _ _ (ix2 0 k) ?_).trans ?_
  · rewrite [Shape.rowMajor_val_one, Shape.rowMajor_val_two]
    show 0 * 128 + k.val = k.val
    omega
  refine extractStridedSlice_apply _ _ _ _ _ fun b => ?_
  match b with
  | ⟨0, _⟩ => rfl
  | ⟨1, _⟩ => exact (Nat.zero_add _).symm

/-- A number of a table of one row. -/
theorem single_apply (a : FVec F S128 .f32) (k : Fin 128) : single a (ix2 0 k) = a (ix1 k) :=
  broadcastInDim_apply _ bcast_S128_S1x128_1 a _ _ fun b => match b with | ⟨0, _⟩ => rfl

/-- A number of a stack of nine rows. -/
theorem stack_apply (a b c d e f g h i : FVec F S1x128 .f32) (r : Fin 9) (k : Fin 128) :
    stack a b c d e f g h i (ix2 r k) = (![a, b, c, d, e, f, g, h, i] : Fin 9 → FVec F S1x128 .f32) r (ix2 0 k) := by
  refine concatenate_apply_piece (t := S9x128) 0 _ _ (ix2 r k) r.val ?_ S1x128 _ ?_ rfl r.val ?_ (ix2 0 k) ?_ ?_
  · exact r.isLt
  · fin_cases r <;> rfl
  · fin_cases r <;> rfl
  · intro b hb
    match b, hb with
    | ⟨0, _⟩, hb => exact absurd rfl hb
    | ⟨1, _⟩, _ => rfl
  · rfl

/-- A number of the filled up table's first nine rows. -/
theorem rows_apply (x0 : FVec F S4x128x256x256 .f32) (r : Fin 9) (k : Fin 128) :
    rows x0 (ix2 ⟨r.val, by omega⟩ k) = nine x0 (ix2 r k) := by
  unfold rows
  refine pad_apply_of_inside _ _ _ _ _ pads_S9x128_S16x128_070_000 h_S_ _ (ix2 r k) fun a => ?_
  match a with
  | ⟨0, _⟩ => show r.val = 0 + r.val * 1; omega
  | ⟨1, _⟩ => show k.val = 0 + k.val * 1; omega

end Layout

/-- Over an image whose corner holds real numbers, a pixel of a column is the patch's … -/
theorem column_coe (x0 : FVec Ideal S4x128x256x256 .f32) (hf : Ref.Finite x0) (q r : Fin 3) (k : Fin 128) :
    column (F := Ideal) x0 q (ix2 r k) = (Ref.patch x0 k r.val q.val : EReal) :=
  (column_apply x0 q r k).trans (hf k r.val q.val _ _ (by omega) (by omega))
/-- … what an outer column has over the middle one is a difference of the patch's … -/
theorem over_coe (x0 : FVec Ideal S4x128x256x256 .f32) (hf : Ref.Finite x0) (q r : Fin 3) (k : Fin 128) :
    over (F := Ideal) x0 q (ix2 r k) = ((Ref.patch x0 k r.val q.val - Ref.patch x0 k r.val 1 : ℝ) : EReal) := by
  show (column (F := Ideal) x0 q (ix2 r k) : EReal) - column (F := Ideal) x0 1 (ix2 r k) = _
  rw [column_coe x0 hf, column_coe x0 hf, EReal.coe_sub]; rfl
/-- … and so is what an outer row has over the middle one. -/
theorem beside_coe (a : FVec Ideal S3x128 .f32) (r : Fin 3) (k : Fin 128) {u v : ℝ} (hu : a (ix2 r k) = (u : EReal))
    (hv : a (ix2 1 k) = (v : EReal)) : single (F := Ideal) (beside a r) (ix2 0 k) = ((u - v : ℝ) : EReal) := by
  rw [single_apply]
  show (line (F := Ideal) a r (ix1 k) : EReal) - line (F := Ideal) a 1 (ix1 k) = _
  rw [line_apply, line_apply, hu, hv, EReal.coe_sub]
/-- A middle row is read as it is. -/
theorem middle_coe (a : FVec Ideal S3x128 .f32) (k : Fin 128) {u : ℝ} (hu : a (ix2 1 k) = (u : EReal)) :
    single (F := Ideal) (line a 1) (ix2 0 k) = (u : EReal) := by
  rw [single_apply, line_apply, hu]

/-- The body's second operand holds the patch's table of nine entries. -/
theorem rows_coe (x0 : FVec Ideal S4x128x256x256 .f32) (hf : Ref.Finite x0) (r : Fin 9) (k : Fin 128) :
    rows (F := Ideal) x0 (ix2 ⟨r.val, by omega⟩ k) = (table (Ref.patch x0 k) r : EReal) := by
  rw [rows_apply]
  unfold nine
  rw [stack_apply]
  have hc := column_coe x0 hf
  have ho := over_coe x0 hf
  match r with
  | 0 => exact middle_coe _ k (hc 1 1 k)
  | 1 => exact middle_coe _ k (ho 0 1 k)
  | 2 => exact middle_coe _ k (ho 2 1 k)
  | 3 => exact beside_coe _ 0 k (hc 1 0 k) (hc 1 1 k)
  | 4 => exact beside_coe _ 0 k (ho 0 0 k) (ho 0 1 k)
  | 5 => exact beside_coe _ 0 k (ho 2 0 k) (ho 2 1 k)
  | 6 => exact beside_coe _ 2 k (hc 1 2 k) (hc 1 1 k)
  | 7 => exact beside_coe _ 2 k (ho 0 2 k) (ho 0 1 k)
  | 8 => exact beside_coe _ 2 k (ho 2 2 k) (ho 2 1 k)

end Cert.KernelIdeal.Patch

end
-- ==== Proof.Array.lean ====
/-  The array the kernel's body leaves: every grid point's block in its place. -/
module

public import proofs.«01_k».proof.Proof.BodyIdeal
public import proofs.«01_k».proof.Proof.PatchValue

@[expose] public section

set_option maxRecDepth 16384

noncomputable section

namespace Cert.KernelIdeal.Body

open Cert.KernelIdeal Cert.KernelIdeal.Gen Cert.RoiAlign
open Idealize.ShloMosaic hiding ix0 ix1 ix2 ix3 ix4 ix5
open Idealize.ShloMosaic.ValueIdx Idealize.ShloMosaic.TcCoe Idealize.ShloMosaic.Tactic
open Idealize.SL Idealize.SL.Sem

/-- The seven centres are the samples' distances from the middle pixel. -/
theorem centres_apply (n : Fin 7) : centres (F := Ideal) n = (centreR n.val : EReal) := by
  have e (a b : ℝ) (h : a = b) : (a : EReal) = (b : EReal) := congrArg _ h
  match n with
  | 0 => exact (IdealRules.named_const.ideal_named_scalar _ _ _ _ rfl).trans (e (-13 / 14) _ (by norm_num [centreR]))
  | 1 => exact (IdealRules.named_const.ideal_named_scalar _ _ _ _ rfl).trans (e (-11 / 14) _ (by norm_num [centreR]))
  | 2 => exact (IdealRules.named_const.ideal_named_scalar _ _ _ _ rfl).trans (e (-9 / 14) _ (by norm_num [centreR]))
  | 3 => exact lit_neg_half.trans (e _ _ (by norm_num [centreR]))
  | 4 => exact (IdealRules.named_const.ideal_named_scalar _ _ _ _ rfl).trans (e (-5 / 14) _ (by norm_num [centreR]))
  | 5 => exact (IdealRules.named_const.ideal_named_scalar _ _ _ _ rfl).trans (e (-3 / 14) _ (by norm_num [centreR]))
  | 6 => exact (IdealRules.named_const.ideal_named_scalar _ _ _ _ rfl).trans (e (-1 / 14) _ (by norm_num [centreR]))

/-- Where the blocks of a grid point lie: 200 boxes further on per point, the table always the whole one. -/
theorem places : ∀ t : Fin cfg0.N,
    (win0_0.index t (0 : Fin 2) = win0_2.index t (1 : Fin 3) ∧ win0_0.index t (1 : Fin 2) = 0)
    ∧ (win0_1.index t (0 : Fin 2) = 0 ∧ win0_1.index t (1 : Fin 2) = 0)
    ∧ (win0_2.index t (0 : Fin 3) = 0 ∧ win0_2.index t (2 : Fin 3) = 0) :=
  (by decide +kernel : ∀ t : Fin grid0.N, _)

/-- The samples of every box in every channel, from the boxes' edges and the table: the first index counts the samples
    row by row. -/
def samples (xy : Vec Ideal S5000x128 .f32) (pc : Vec Ideal S16x128 .f32) (i : S49x5000x128.Idx) : EReal :=
  pointE (clipE (xy (ix2 (i 1) 0)) + centres (F := Ideal) ⟨(i 0).val % 7, Nat.mod_lt _ (by decide)⟩)
    (clipE (xy (ix2 (i 1) 1)) + centres (F := Ideal) ⟨(i 0).val / 7, by have : (i 0).val < 49 := (i 0).isLt; omega⟩)
    fun r => pc (ix2 ⟨r.val, by omega⟩ (i 2))

variable (m : (ℓ : Loc nD τ sig) → Buf (Elt Ideal) ℓ)

/-- The element of the result array that an element of a block lies at: 200 boxes further on per point. -/
theorem block_place (t : Fin cfg0.N) (y : S49x200x128.Idx) :
    ((win0_2.blk t).view.emb y 0).val = (y 0).val ∧ ((win0_2.blk t).view.emb y 1).val = win0_2.index t (1 : Fin 3) * 200 + (y 1).val
      ∧ ((win0_2.blk t).view.emb y 2).val = (y 2).val := by
  obtain ⟨-, -, ⟨e0, e2⟩⟩ := places t
  refine ⟨?_, ?_, ?_⟩
  · show win0_2.index t (0 : Fin 3) * 49 + 1 * (y 0).val = _; omega
  · show win0_2.index t (1 : Fin 3) * 200 + 1 * (y 1).val = _; omega
  · show win0_2.index t (2 : Fin 3) * 128 + 1 * (y 2).val = _; omega

/-- A block of edges, read off the array of edges. -/
theorem edge_block (c : Dev nD) (t : Fin cfg0.N) (y : S49x200x128.Idx) (l : Fin 128) :
    iblk m c 0 t (ix2 (y 1) l) = V m c main_v1 (ix2 ((win0_2.blk t).view.emb y 1) l) := by
  obtain ⟨⟨a0, a1⟩, -, -⟩ := places t
  obtain ⟨-, h1, -⟩ := block_place t y
  show V m c main_v1 ((win0_0.blk t).view.emb (ix2 (y 1) l)) = _
  refine congrArg _ (funext fun a => Fin.ext ?_)
  match a with
  | ⟨0, _⟩ => show win0_0.index t (0 : Fin 2) * 200 + 1 * (y 1).val = ((win0_2.blk t).view.emb y 1).val; omega
  | ⟨1, _⟩ => show win0_0.index t (1 : Fin 2) * 128 + 1 * l.val = l.val; omega

/-- The block of the table is the table. -/
theorem table_block (c : Dev nD) (t : Fin cfg0.N) (y : S49x200x128.Idx) (r : Fin 16) :
    iblk m c 1 t (ix2 r (y 2)) = V m c main_v59 (ix2 r ((win0_2.blk t).view.emb y 2)) := by
  obtain ⟨-, ⟨b0, b1⟩, -⟩ := places t
  obtain ⟨-, -, h2⟩ := block_place t y
  show V m c main_v59 ((win0_1.blk t).view.emb (ix2 r (y 2))) = _
  refine congrArg _ (funext fun a => Fin.ext ?_)
  match a with
  | ⟨0, _⟩ => show win0_1.index t (0 : Fin 2) * 16 + 1 * r.val = r.val; omega
  | ⟨1, _⟩ => show win0_1.index t (1 : Fin 2) * 128 + 1 * (y 2).val = ((win0_2.blk t).view.emb y 2).val; omega

/-- The array after the last grid point. -/
theorem array_eq (c : Dev nD) : (dats m 0 c).arrAt 2 cfg0.N = samples (V m c main_v1) (V m c main_v59) := by
  refine (dats m 0 c).arrAt_eq_of_covers 2 _ (by decide +kernel) fun t hf y => ?_
  blk_simp
  rw [after0_2]
  unfold out
  rw [block_apply]
  have h0 : ((win0_2.blk t).view.emb y 0).val = (y 0).val := (block_place t y).1
  unfold blockE samples
  have hj (h) : (⟨((win0_2.blk t).view.emb y 0).val % 7, h⟩ : Fin 7) = ⟨(y 0).val % 7, Nat.mod_lt _ (by decide)⟩ :=
    Fin.ext (congrArg (· % 7) h0)
  have hi (h h') : (⟨((win0_2.blk t).view.emb y 0).val / 7, h⟩ : Fin 7) = ⟨(y 0).val / 7, h'⟩ := Fin.ext (congrArg (· / 7) h0)
  exact congr (congr (congrArg pointE (congr (congrArg HAdd.hAdd (congrArg clipE (edge_block m c t y 0))) (congrArg centres (hj _).symm)))
    (congr (congrArg HAdd.hAdd (congrArg clipE (edge_block m c t y 1))) (congrArg centres (hi _ _).symm)))
    (funext fun r => table_block m c t y ⟨r.val, by omega⟩)

/-! ## The program's result -/

/-- The lines after the body lay the samples out by box, channel, row and column. -/
theorem layout (W : Valuation τ sig (Elt Ideal)) :
    StableHlo.after (List.flatten [hostOps1]) W (Proc.devRef .tc main_v62) =
      transpose S5000x128x7x7 [2, 3, 0, 1] (shapeCast S7x7x5000x128 (W (Proc.devRef .tc main_v60)) shapeCasts_S49x5000x128_S7x7x5000x128)
        transposes_S7x7x5000x128_S5000x128x7x7_2_3_0_1 := by
  simp only [hostOps1, List.flatten_cons, List.flatten_nil, List.append_nil, List.cons_append, List.nil_append]
  after_results <;> rfl

/-- The layout, at an element. -/
theorem layout_apply (X : Vec Ideal S49x5000x128 .f32) (i : S5000x128x7x7.Idx) :
    transpose S5000x128x7x7 [2, 3, 0, 1] (shapeCast S7x7x5000x128 X shapeCasts_S49x5000x128_S7x7x5000x128)
        transposes_S7x7x5000x128_S5000x128x7x7_2_3_0_1 i =
      X (ix3 ⟨7 * (i 2).val + (i 3).val, by have h2 : (i 2).val < 7 := (i 2).isLt; have h3 : (i 3).val < 7 := (i 3).isLt; omega⟩ (i 0) (i 1)) := by
  refine (transpose_apply _ _ _ _ (ix4 (i 2) (i 3) (i 0) (i 1)) fun b => match b with
    | ⟨0, _⟩ => rfl | ⟨1, _⟩ => rfl | ⟨2, _⟩ => rfl | ⟨3, _⟩ => rfl).trans ?_
  have key (b : Fin 5000) (k : Fin 128) (p q : Fin 7) (h) :
      (S49x5000x128.rowMajor (ix3 ⟨7 * p.val + q.val, h⟩ b k)).val = (S7x7x5000x128.rowMajor (ix4 p q b k)).val := by
    rewrite [Shape.rowMajor_val_three, Shape.rowMajor_val_four]
    show ((7 * p.val + q.val) * 5000 + b.val) * 128 + k.val = ((p.val * 7 + q.val) * 5000 + b.val) * 128 + k.val
    omega
  exact shapeCast_apply _ _ _ _ (key (i 0) (i 1) (i 2) (i 3) _)

/-- What the program leaves in its result, over the extended reals. -/
def result (x0 : Vec Ideal S4x128x256x256 .f32) (x1 : Vec Ideal S5000x5 .f32) : Vec Ideal S5000x128x7x7 .f32 :=
  transpose S5000x128x7x7 [2, 3, 0, 1]
    (shapeCast S7x7x5000x128 (samples (Patch.edges (F := Ideal) x1) (Patch.rows (F := Ideal) x0) : Vec Ideal S49x5000x128 .f32)
      shapeCasts_S49x5000x128_S7x7x5000x128)
    transposes_S7x7x5000x128_S5000x128x7x7_2_3_0_1

/-- A number of the result is the reference's blend: boxes below 1, a corner of real numbers. -/
theorem result_apply (x0 : Vec Ideal S4x128x256x256 .f32) (x1 : Vec Ideal S5000x5 .f32) (h : ∀ i, (x1 i : EReal) < 1) (hf : Ref.Finite x0)
    (i : S5000x128x7x7.Idx) :
    result x0 x1 i = (Ref.blend (sampleAt (corner (x1 (ix2 (i 0) 2))) (i 2).val) (sampleAt (corner (x1 (ix2 (i 0) 1))) (i 3).val)
      (Ref.patch x0 (i 1)) : EReal) := by
  have h2 : (i 2).val < 7 := (i 2).isLt
  have h3 : (i 3).val < 7 := (i 3).isLt
  unfold result
  rw [layout_apply]
  refine Eq.trans ?_ (sample_eq (h (ix2 (i 0) 1)) (h (ix2 (i 0) 2)) (i 2).val (i 3).val (Ref.patch x0 (i 1)))
  have hj : (7 * (i 2).val + (i 3).val) % 7 = (i 3).val := by omega
  have hi : (7 * (i 2).val + (i 3).val) / 7 = (i 2).val := by omega
  have cj : centres (F := Ideal) ⟨(7 * (i 2).val + (i 3).val) % 7, Nat.mod_lt _ (by decide)⟩ = (centreR (i 3).val : EReal) :=
    (centres_apply _).trans (congrArg (fun n => (centreR n : EReal)) hj)
  have ci (h) : centres (F := Ideal) ⟨(7 * (i 2).val + (i 3).val) / 7, h⟩ = (centreR (i 2).val : EReal) :=
    (centres_apply _).trans (congrArg (fun n => (centreR n : EReal)) hi)
  have e0 : Patch.edges (F := Ideal) x1 (ix2 (i 0) 0) = x1 (ix2 (i 0) 1) := Patch.edges_apply (F := Ideal) x1 (i 0) 0
  have e1 : Patch.edges (F := Ideal) x1 (ix2 (i 0) 1) = x1 (ix2 (i 0) 2) := Patch.edges_apply (F := Ideal) x1 (i 0) 1
  exact congr (congr (congrArg pointE (congr (congrArg HAdd.hAdd (congrArg clipE e0)) cj))
    (congr (congrArg HAdd.hAdd (congrArg clipE e1)) (ci _)))
    (funext fun r => Patch.rows_coe x0 hf r (i 1))

/-- The array's contents when the body is done. -/
theorem exit_eq (c : Dev nD) :
    Pipeline.withArrays spec0 c (V0 m c) (fun w => (dats m 0 c).arrAt w cfg0.N) (Proc.devRef .tc main_v60) =
      samples (Patch.edges (F := Ideal) (m ((c : Thread nD τ).loc main_arg1))) (Patch.rows (F := Ideal) (m ((c : Thread nD τ).loc main_arg0))) := by
  refine (Pipeline.withArrays_arr spec0 launch0.win.arr_inj c (V0 m c) _ 2).trans ((array_eq m c).trans ?_)
  exact congr (congrArg samples (Patch.first_operand _)) (Patch.second_operand _)

/-- Every run of the program ends, with the result as computed above and the arguments unchanged. -/
theorem run_result (ρ : Dev nD → PrngReg) :
    θ_run defs (onTc (τ := τ) (main (F := Ideal))) ⟨m, fun _ => 0, ρ⟩ fun r => ∀ c : Dev nD,
      r.2.mem ((c.tc : Thread nD τ).loc main_v62) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v62 (Pipeline.mem_restRefs_of main_v62 (by decide) (by decide))).trans
        ((layout _).trans (by rw [exit_eq]; rfl)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩) (run_main m ρ)

end Cert.KernelIdeal.Body

end
-- ==== Proof.Drawn.lean ====
/-  What the precondition says: every number of the boxes is below 1, and the three by three corner of image 0 holds real
    numbers. -/
module

public import proofs.«01_k».proof.Proof.Gen.Pre_drawn
public import proofs.«01_k».proof.Proof.RefPixels
public import Idealize.ShloMosaic.Lib.ReduceAll

@[expose] public section

noncomputable section

namespace Cert.RoiAlign.Drawn

open Cert.Pre_drawn Cert.Pre_drawn.Gen Cert.RoiAlign
open Idealize.ShloMosaic hiding ix0 ix1 ix2 ix3 ix4 ix5
open Idealize.ShloMosaic.ValueIdx

/-- There is one index of a shape of no axis. -/
theorem one_index : Subsingleton S_.Idx := ⟨fun _ _ => funext fun a => a.elim0⟩

/-- A comparison that came out 1 holds. -/
theorem lt_of_word {a b : EReal} (h : FloatOps.cmpf (F := Ideal) (φ := .f32) .olt a b = 1#1) : a < b := by
  change BitVec.ofBool (decide (a < b)) = 1#1 at h
  by_contra hn
  rw [decide_eq_false hn] at h
  exact absurd h (by decide)

/-- A number whose size is below infinity is a real number. -/
theorem real_of_size {z : EReal} (h : max z (-z) < ⊤) : z = (z.toReal : EReal) := by
  refine (EReal.coe_toReal ?_ ?_).symm
  · rintro rfl; simp at h
  · rintro rfl; simp at h

variable (x0 : FVec Ideal S4x128x256x256 .f32) (x1 : FVec Ideal S5000x5 .f32)

/-- The two halves of the precondition. -/
theorem halves (h : fn (F := Ideal) x0 x1 = fun _ => 1#1) :
    (∀ i, cmpf .olt x1 (broadcastInDim S5000x5 ![] bcast_S_S5000x5 (constant S_ .f32 0x3F800000#32)) i = 1#1) ∧
      ∀ i, cmpf .olt (Host.absf (shapeCast S128x3x3 (extractStridedSlice S1x128x3x3 ![0, 0, 0, 0] x0 slices_S4x128x256x256_S1x128x3x3_0_0_0_0)
        shapeCasts_S1x128x3x3_S128x3x3)) (broadcastInDim S128x3x3 ![] bcast_S_S128x3x3 (constant S_ .f32 0x7F800000#32)) i = 1#1 := by
  haveI := one_index
  obtain ⟨ha, hb⟩ := IntOp.andi_eq_one.1 (congrFun h (fun a => a.elim0))
  exact ⟨fun i => Host.reduce_andi_all _ _ reducesTo_S5000x5_S_d0_1 h_S_ _ ha i,
    fun i => Host.reduce_andi_all _ _ reducesTo_S128x3x3_S_d0_1_2 h_S_ _ hb i⟩

/-- Every number of the boxes is below 1. -/
theorem below (h : fn (F := Ideal) x0 x1 = fun _ => 1#1) (i : S5000x5.Idx) : (x1 i : EReal) < 1 := by
  have e : (x1 i : EReal) < (FloatOps.ofBits (F := Ideal) .f32 0x3F800000#32 : EReal) := lt_of_word ((halves x0 x1 h).1 i)
  rw [lit_one, EReal.coe_one] at e
  exact e

/-- An element of the corner, as the precondition reads it. -/
theorem corner_apply (k : Fin 128) (r q : Fin 3) :
    shapeCast S128x3x3 (extractStridedSlice S1x128x3x3 ![0, 0, 0, 0] x0 slices_S4x128x256x256_S1x128x3x3_0_0_0_0)
        shapeCasts_S1x128x3x3_S128x3x3 (ix3 k r q) = x0 (ix4 0 k ⟨r.val, by omega⟩ ⟨q.val, by omega⟩) := by
  refine (shapeCast_apply _ _ _ (ix4 0 k r q) ?_).trans ?_
  · rewrite [Shape.rowMajor_val_three, Shape.rowMajor_val_four]
    show ((0 * 128 + k.val) * 3 + r.val) * 3 + q.val = (k.val * 3 + r.val) * 3 + q.val
    omega
  refine extractStridedSlice_apply _ x0 _ _ _ fun a => ?_
  match a with
  | ⟨0, _⟩ => rfl
  | ⟨1, _⟩ => exact (Nat.zero_add _).symm
  | ⟨2, _⟩ => exact (Nat.zero_add _).symm
  | ⟨3, _⟩ => exact (Nat.zero_add _).symm

/-- The corner of image 0 holds real numbers. -/
theorem finite (h : fn (F := Ideal) x0 x1 = fun _ => 1#1) : Ref.Finite x0 := by
  intro k r q hr hq h2 h2'
  have e := (halves x0 x1 h).2 (ix3 k ⟨r, by omega⟩ ⟨q, by omega⟩)
  have s : max (x0 (ix4 0 k ⟨r, hr⟩ ⟨q, hq⟩) : EReal) (-(x0 (ix4 0 k ⟨r, hr⟩ ⟨q, hq⟩) : EReal)) < ⊤ := by
    rw [← lit_inf, ← corner_apply x0 k ⟨r, by omega⟩ ⟨q, by omega⟩]
    exact lt_of_word e
  unfold Ref.patch
  rw [dif_pos hr, dif_pos hq]
  exact real_of_size s

end Cert.RoiAlign.Drawn

end
-- ==== Proof.lean ====
/-  RoI align of 5000 boxes, the kernel against the plain reference: the frames of the kernel as printed, of the kernel over
    the extended reals and of the reference, the kernel's named centres, and the equality of the two results. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_drawn
public import proofs.«01_k».proof.Proof.Gen.ReferenceIdeal.Run
public import proofs.«01_k».proof.Proof.Gen.ReferenceIdeal.Read
public import proofs.«01_k».proof.Proof.BodyPrinted
public import proofs.«01_k».proof.Proof.Array
public import proofs.«01_k».proof.Proof.Drawn
public import Idealize.ShloMosaic.Lib.Quiescent
public import Idealize.ShloMosaic.Adequacy
public import Idealize.ShloMosaic.Init

@[expose] public section

noncomputable section

namespace Cert.Proof

open Idealize.ShloMosaic Idealize.SL.Sem Cert.RoiAlign

/-- Every run of the reference ends, with its arguments unchanged and every semaphore counter at zero: it declares none. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- The equation: on boxes below 1 and a corner of real numbers, the kernel's result is the reference's. -/
theorem results_eq (x0 : FVec Ideal Cert.ReferenceIdeal.S4x128x256x256 .f32) (x1 : FVec Ideal Cert.ReferenceIdeal.S5000x5 .f32)
    (h : Cert.Pre_drawn.fn (F := Ideal) x0 x1 = fun _ => 1#1) :
    Cert.ReferenceIdeal.Read.val_main_v231 (F := Ideal) x0 x1 = Cert.KernelIdeal.Body.result x0 x1 :=
  funext fun i => (Ref.result (Drawn.below x0 x1 h) x0 (Drawn.finite x0 x1 h) i).trans
    (Cert.KernelIdeal.Body.result_apply x0 x1 (Drawn.below x0 x1 h) (Drawn.finite x0 x1 h) i).symm

/-- Every named centre is what its word rounds. -/
theorem centres_named : Cert.preserves_Kernel_KernelIdeal :=
  ⟨IdealRules.named_const.statement Cert.KernelIdeal.κ "centre0" .f32 0xBF6DB6DB#32 ((-13 / 14 : ℝ) : EReal) rfl,
    IdealRules.named_const.statement Cert.KernelIdeal.κ "centre1" .f32 0xBF492492#32 ((-11 / 14 : ℝ) : EReal) rfl,
    IdealRules.named_const.statement Cert.KernelIdeal.κ "centre2" .f32 0xBF249249#32 ((-9 / 14 : ℝ) : EReal) rfl,
    IdealRules.named_const.statement Cert.KernelIdeal.κ "centre4" .f32 0xBEB6DB6E#32 ((-5 / 14 : ℝ) : EReal) rfl,
    IdealRules.named_const.statement Cert.KernelIdeal.κ "centre5" .f32 0xBE5B6DB7#32 ((-3 / 14 : ℝ) : EReal) rfl,
    IdealRules.named_const.statement Cert.KernelIdeal.κ "centre6" .f32 0xBD924925#32 ((-1 / 14 : ℝ) : EReal) rfl⟩

/-- Kernel and reference compute the same function over the extended reals. -/
theorem same_function : Cert.algebraic_KernelIdeal_ReferenceIdeal_pre_drawn := fun m g m' g' hpre hargs =>
  ⟨fun c => Cert.KernelIdeal.Body.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Body.run_result m g,
    (θ_run Cert.ReferenceIdeal.defs _ _).mono (fun r h c => ⟨(h c).1.trans
        ((Cert.ReferenceIdeal.Read.val_main_v231_eq (F := Ideal) (StableHlo.launchContents m' c)).trans
          ((congr (congrArg (Cert.ReferenceIdeal.Read.val_main_v231 (F := Ideal)) (hargs c).1) (hargs c).2).trans
            (results_eq _ _ (hpre c)))), (h c).2⟩)
      (Cert.ReferenceIdeal.Value.run (F := Ideal) m' g')⟩

/-- All the claims. -/
theorem claim : Cert.Claim :=
  ⟨Cert.Kernel.Gen.facts, Cert.KernelIdeal.Gen.facts, Cert.ReferenceIdeal.Gen.facts, Cert.Pre_drawn.Gen.facts,
    fun m ρ _ => Cert.Kernel.Body.frame m ρ, fun m ρ _ => Cert.KernelIdeal.Body.frame m ρ,
    fun m ρ _ => Cert.KernelIdeal.Body.frame m ρ, fun m ρ _ => reference_frame m ρ, fun m ρ _ => reference_frame m ρ,
    centres_named, same_function⟩

end Cert.Proof

end
